-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 8192]⟩ ⟨2, ![8192, 8192]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![8192, 512]⟩ ⟨2, ![8192, 4096]⟩ 1 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![8192, 512]⟩ ⟨2, ![8192, 4096]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x8192 : Shape := ⟨2, ![1024, 8192]⟩
abbrev S8192x512 : Shape := ⟨2, ![8192, 512]⟩
abbrev S2x256x8192 : Shape := ⟨3, ![2, 256, 8192]⟩
abbrev S4 : Shape := ⟨1, ![4]⟩
abbrev S4x2 : Shape := ⟨2, ![4, 2]⟩
abbrev S1 : Shape := ⟨1, ![1]⟩
abbrev S_ : Shape := ⟨0, ![]⟩
abbrev S1x256x8192 : Shape := ⟨3, ![1, 256, 8192]⟩
abbrev S256x8192 : Shape := ⟨2, ![256, 8192]⟩
abbrev S1x1 : Shape := ⟨2, ![1, 1]⟩
abbrev S256x512 : Shape := ⟨2, ![256, 512]⟩

abbrev nBuf : Space → Nat
  | .hbm => 3
  | .vmem => 6
  | .smem => 0
  | _ => 0

abbrev bufTy : (tb : Table) → Fin (tcTables nBuf tb) → BufTy
  | .hbm, ⟨0, _⟩ => ⟨S1024x8192, .bf16⟩
  | .hbm, ⟨1, _⟩ => ⟨S8192x512, .bf16⟩
  | .hbm, ⟨2, _⟩ => ⟨S8192x512, .f32⟩
  | .local _ .vmem, ⟨0, _⟩ => ⟨S8192x512, .bf16⟩
  | .local _ .vmem, ⟨1, _⟩ => ⟨S8192x512, .f32⟩
  | .local _ .vmem, ⟨2, _⟩ => ⟨S2x256x8192, .bf16⟩
  | .local _ .vmem, ⟨3, _⟩ => ⟨S2x256x8192, .bf16⟩
  | .local _ .vmem, ⟨4, _⟩ => ⟨S2x256x8192, .bf16⟩
  | .local _ .vmem, ⟨5, _⟩ => ⟨S2x256x8192, .bf16⟩
  | _, _ => ⟨S1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 5 22 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 4

abbrev nD : Nat := 8
abbrev τ : Topo := Topo.v7x

variable {F : FTy → Type} [FloatOps F]

abbrev grid0 : Pipeline.Grid := .none

def k0_dev1 (d0 : Dev nD) : Nat :=
  let c0_i32_49 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_48 : BitVec 32 := 1#32
  let v49 : BitVec 32 := Scalar.muli v5 c1_i32_48
  let v50 : BitVec 32 := Scalar.addi c0_i32_49 v49
  v50.toNat
def k0_dev2 (d0 : Dev nD) : Nat :=
  let c0_i32_52 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_51 : BitVec 32 := 1#32
  let v51 : BitVec 32 := Scalar.muli v7 c1_i32_51
  let v52 : BitVec 32 := Scalar.addi c0_i32_52 v51
  v52.toNat
def k0_dev3 (d0 : Dev nD) : Nat :=
  let c0_i32_61 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_60 : BitVec 32 := 1#32
  let v53 : BitVec 32 := Scalar.muli v7 c1_i32_60
  let v54 : BitVec 32 := Scalar.addi c0_i32_61 v53
  v54.toNat
def k0_dev4 (d0 : Dev nD) : Nat :=
  let c0_i32_73 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_72 : BitVec 32 := 1#32
  let v63 : BitVec 32 := Scalar.muli v5 c1_i32_72
  let v64 : BitVec 32 := Scalar.addi c0_i32_73 v63
  v64.toNat
def k0_dev5 (d0 : Dev nD) : Nat :=
  let c0_i32_85 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_84 : BitVec 32 := 1#32
  let v73 : BitVec 32 := Scalar.muli v7 c1_i32_84
  let v74 : BitVec 32 := Scalar.addi c0_i32_85 v73
  v74.toNat
def k0_dev6 (d0 : Dev nD) : Nat :=
  let c0_i32_97 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_96 : BitVec 32 := 1#32
  let v83 : BitVec 32 := Scalar.muli v5 c1_i32_96
  let v84 : BitVec 32 := Scalar.addi c0_i32_97 v83
  v84.toNat
def k0_off1 (d0 : Dev nD) (c0_i32_109 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_102 : BitVec 32 := 0#32
  let v93 : BitVec 32 := Scalar.subi v2 c0_i32_102
  let c0_i32_103 : BitVec 32 := 0#32
  let v94 : BitVec 32 := Scalar.addi v93 c0_i32_103
  let c8_i32_104 : BitVec 32 := 8#32
  let v95 : BitVec 32 := Scalar.remsi v94 c8_i32_104
  let c1024_i32 : BitVec 32 := 1024#32
  let v101 : BitVec 32 := Scalar.muli v95 c1024_i32
  let v102 : BitVec 32 := Scalar.addi v101 c0_i32_109
  let v103 : Index := Scalar.indexCast v102
  let c0_110 : Index := 0#32
  ![v103.toNat, 0]
@[reducible] def k0_t1_loop : Scf.Loop 32 :=
  let c0_i32_147 : BitVec 32 := 0#32
  let c7_i32 : BitVec 32 := 7#32
  let v141 : BitVec 32 := Scalar.addi c0_i32_147 c7_i32
  let c1_i32_148 : BitVec 32 := 1#32
  ⟨c0_i32_147, v141, c1_i32_148⟩
def k0_off2 (k0_t1 : Fin k0_t1_loop.trips) : Fin 2 → Nat :=
  let c0_i32_153 : BitVec 32 := 0#32
  let c0_i32_147 : BitVec 32 := 0#32
  let c1_i32_148 : BitVec 32 := 1#32
  let arg11 : BitVec 32 := Scf.iv c0_i32_147 c1_i32_148 k0_t1
  let c1_i32_151 : BitVec 32 := 1#32
  let v143 : BitVec 32 := Scalar.addi arg11 c1_i32_151
  let c2_i32_152 : BitVec 32 := 2#32
  let v144 : BitVec 32 := Scalar.remsi v143 c2_i32_152
  ![0, v144.toNat]
def k0_off3 (k0_t1 : Fin k0_t1_loop.trips) : Fin 3 → Nat :=
  let c0_i32_147 : BitVec 32 := 0#32
  let c1_i32_148 : BitVec 32 := 1#32
  let arg11 : BitVec 32 := Scf.iv c0_i32_147 c1_i32_148 k0_t1
  let c1_i32_151 : BitVec 32 := 1#32
  let v143 : BitVec 32 := Scalar.addi arg11 c1_i32_151
  let c2_i32_152 : BitVec 32 := 2#32
  let v144 : BitVec 32 := Scalar.remsi v143 c2_i32_152
  let c0_i32_157 : BitVec 32 := 0#32
  let c0_i32_158 : BitVec 32 := 0#32
  ![v144.toNat, 0, 0]
def k0_off4 (k0_t1 : Fin k0_t1_loop.trips) : Fin 3 → Nat :=
  let c0_i32_147 : BitVec 32 := 0#32
  let c1_i32_148 : BitVec 32 := 1#32
  let arg11 : BitVec 32 := Scf.iv c0_i32_147 c1_i32_148 k0_t1
  let c2_i32_150 : BitVec 32 := 2#32
  let v142 : BitVec 32 := Scalar.remsi arg11 c2_i32_150
  let c0_i32_159 : BitVec 32 := 0#32
  let c0_i32_160 : BitVec 32 := 0#32
  ![v142.toNat, 0, 0]
def k0_off5 (k0_t1 : Fin k0_t1_loop.trips) : Fin 2 → Nat :=
  let c0_i32_161 : BitVec 32 := 0#32
  let c0_i32_147 : BitVec 32 := 0#32
  let c1_i32_148 : BitVec 32 := 1#32
  let arg11 : BitVec 32 := Scf.iv c0_i32_147 c1_i32_148 k0_t1
  let c2_i32_150 : BitVec 32 := 2#32
  let v142 : BitVec 32 := Scalar.remsi arg11 c2_i32_150
  ![0, v142.toNat]
def k0_cond1 (k0_t1 : Fin k0_t1_loop.trips) : BitVec 1 :=
  let c0_i32_147 : BitVec 32 := 0#32
  let c1_i32_148 : BitVec 32 := 1#32
  let arg11 : BitVec 32 := Scf.iv c0_i32_147 c1_i32_148 k0_t1
  let c6_i32 : BitVec 32 := 6#32
  let v159 : BitVec 1 := Scalar.cmpi .slt arg11 c6_i32
  let v160 : BitVec 32 := Scalar.extui v159
  let c0_i32_168 : BitVec 32 := 0#32
  let v161 : BitVec 1 := Scalar.cmpi .ne v160 c0_i32_168
  v161

def k0_dev7 (d0 : Dev nD) : Nat :=
  let c0_i32_282 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_281 : BitVec 32 := 1#32
  let v295 : BitVec 32 := Scalar.muli v5 c1_i32_281
  let v296 : BitVec 32 := Scalar.addi c0_i32_282 v295
  v296.toNat
def k0_cond2 (k0_t1 : Fin k0_t1_loop.trips) : BitVec 1 :=
  let c0_i32_147 : BitVec 32 := 0#32
  let c1_i32_148 : BitVec 32 := 1#32
  let arg11 : BitVec 32 := Scf.iv c0_i32_147 c1_i32_148 k0_t1
  let c6_i32_169 : BitVec 32 := 6#32
  let v162 : BitVec 1 := Scalar.cmpi .slt arg11 c6_i32_169
  let v163 : BitVec 32 := Scalar.extui v162
  let c0_i32_170 : BitVec 32 := 0#32
  let v164 : BitVec 1 := Scalar.cmpi .ne v163 c0_i32_170
  v164

def k0_off6 (k0_t1 : Fin k0_t1_loop.trips) : Fin 2 → Nat :=
  let c0_i32_283 : BitVec 32 := 0#32
  let c0_i32_147 : BitVec 32 := 0#32
  let c1_i32_148 : BitVec 32 := 1#32
  let arg11 : BitVec 32 := Scf.iv c0_i32_147 c1_i32_148 k0_t1
  let c1_i32_151 : BitVec 32 := 1#32
  let v143 : BitVec 32 := Scalar.addi arg11 c1_i32_151
  let c2_i32_152 : BitVec 32 := 2#32
  let v144 : BitVec 32 := Scalar.remsi v143 c2_i32_152
  ![0, v144.toNat]
def k0_off7 (k0_t1 : Fin k0_t1_loop.trips) : Fin 2 → Nat :=
  let c0_i32_282 : BitVec 32 := 0#32
  let c0_i32_147 : BitVec 32 := 0#32
  let c1_i32_148 : BitVec 32 := 1#32
  let arg11 : BitVec 32 := Scf.iv c0_i32_147 c1_i32_148 k0_t1
  let c2_i32_150 : BitVec 32 := 2#32
  let v142 : BitVec 32 := Scalar.remsi arg11 c2_i32_150
  ![0, v142.toNat]
def k0_off8 (k0_t1 : Fin k0_t1_loop.trips) : Fin 3 → Nat :=
  let c0_i32_147 : BitVec 32 := 0#32
  let c1_i32_148 : BitVec 32 := 1#32
  let arg11 : BitVec 32 := Scf.iv c0_i32_147 c1_i32_148 k0_t1
  let c2_i32_150 : BitVec 32 := 2#32
  let v142 : BitVec 32 := Scalar.remsi arg11 c2_i32_150
  let c0_i32_286 : BitVec 32 := 0#32
  let c0_i32_287 : BitVec 32 := 0#32
  ![v142.toNat, 0, 0]
def k0_off9 (k0_t1 : Fin k0_t1_loop.trips) : Fin 3 → Nat :=
  let c0_i32_147 : BitVec 32 := 0#32
  let c1_i32_148 : BitVec 32 := 1#32
  let arg11 : BitVec 32 := Scf.iv c0_i32_147 c1_i32_148 k0_t1
  let c1_i32_151 : BitVec 32 := 1#32
  let v143 : BitVec 32 := Scalar.addi arg11 c1_i32_151
  let c2_i32_152 : BitVec 32 := 2#32
  let v144 : BitVec 32 := Scalar.remsi v143 c2_i32_152
  let c0_i32_288 : BitVec 32 := 0#32
  let c0_i32_289 : BitVec 32 := 0#32
  ![v144.toNat, 0, 0]
def k0_dev8 (d0 : Dev nD) : Nat :=
  let c0_i32_285 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_284 : BitVec 32 := 1#32
  let v295 : BitVec 32 := Scalar.muli v7 c1_i32_284
  let v296 : BitVec 32 := Scalar.addi c0_i32_285 v295
  v296.toNat
def k0_off10 (k0_t1 : Fin k0_t1_loop.trips) : Fin 2 → Nat :=
  let c1_i32_171 : BitVec 32 := 1#32
  let c0_i32_147 : BitVec 32 := 0#32
  let c1_i32_148 : BitVec 32 := 1#32
  let arg11 : BitVec 32 := Scf.iv c0_i32_147 c1_i32_148 k0_t1
  let c1_i32_151 : BitVec 32 := 1#32
  let v143 : BitVec 32 := Scalar.addi arg11 c1_i32_151
  let c2_i32_152 : BitVec 32 := 2#32
  let v144 : BitVec 32 := Scalar.remsi v143 c2_i32_152
  ![1, v144.toNat]
def k0_off11 (k0_t1 : Fin k0_t1_loop.trips) : Fin 2 → Nat :=
  let c1_i32_179 : BitVec 32 := 1#32
  let c0_i32_147 : BitVec 32 := 0#32
  let c1_i32_148 : BitVec 32 := 1#32
  let arg11 : BitVec 32 := Scf.iv c0_i32_147 c1_i32_148 k0_t1
  let c2_i32_150 : BitVec 32 := 2#32
  let v142 : BitVec 32 := Scalar.remsi arg11 c2_i32_150
  ![1, v142.toNat]
def k0_cond3 (k0_t1 : Fin k0_t1_loop.trips) : BitVec 1 :=
  let c0_i32_147 : BitVec 32 := 0#32
  let c1_i32_148 : BitVec 32 := 1#32
  let arg11 : BitVec 32 := Scf.iv c0_i32_147 c1_i32_148 k0_t1
  let c6_i32_186 : BitVec 32 := 6#32
  let v179 : BitVec 1 := Scalar.cmpi .slt arg11 c6_i32_186
  let v180 : BitVec 32 := Scalar.extui v179
  let c0_i32_187 : BitVec 32 := 0#32
  let v181 : BitVec 1 := Scalar.cmpi .ne v180 c0_i32_187
  v181

def k0_dev9 (d0 : Dev nD) : Nat :=
  let c0_i32_282 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_281 : BitVec 32 := 1#32
  let v295 : BitVec 32 := Scalar.muli v7 c1_i32_281
  let v296 : BitVec 32 := Scalar.addi c0_i32_282 v295
  v296.toNat
def k0_cond4 (k0_t1 : Fin k0_t1_loop.trips) : BitVec 1 :=
  let c0_i32_147 : BitVec 32 := 0#32
  let c1_i32_148 : BitVec 32 := 1#32
  let arg11 : BitVec 32 := Scf.iv c0_i32_147 c1_i32_148 k0_t1
  let c6_i32_188 : BitVec 32 := 6#32
  let v182 : BitVec 1 := Scalar.cmpi .slt arg11 c6_i32_188
  let v183 : BitVec 32 := Scalar.extui v182
  let c0_i32_189 : BitVec 32 := 0#32
  let v184 : BitVec 1 := Scalar.cmpi .ne v183 c0_i32_189
  v184

def k0_off12 (k0_t1 : Fin k0_t1_loop.trips) : Fin 2 → Nat :=
  let c1_i32_283 : BitVec 32 := 1#32
  let c0_i32_147 : BitVec 32 := 0#32
  let c1_i32_148 : BitVec 32 := 1#32
  let arg11 : BitVec 32 := Scf.iv c0_i32_147 c1_i32_148 k0_t1
  let c1_i32_151 : BitVec 32 := 1#32
  let v143 : BitVec 32 := Scalar.addi arg11 c1_i32_151
  let c2_i32_152 : BitVec 32 := 2#32
  let v144 : BitVec 32 := Scalar.remsi v143 c2_i32_152
  ![1, v144.toNat]
def k0_off13 (k0_t1 : Fin k0_t1_loop.trips) : Fin 2 → Nat :=
  let c1_i32_282 : BitVec 32 := 1#32
  let c0_i32_147 : BitVec 32 := 0#32
  let c1_i32_148 : BitVec 32 := 1#32
  let arg11 : BitVec 32 := Scf.iv c0_i32_147 c1_i32_148 k0_t1
  let c2_i32_150 : BitVec 32 := 2#32
  let v142 : BitVec 32 := Scalar.remsi arg11 c2_i32_150
  ![1, v142.toNat]
def k0_off14 (k0_t1 : Fin k0_t1_loop.trips) : Fin 3 → Nat :=
  let c0_i32_147 : BitVec 32 := 0#32
  let c1_i32_148 : BitVec 32 := 1#32
  let arg11 : BitVec 32 := Scf.iv c0_i32_147 c1_i32_148 k0_t1
  let c2_i32_150 : BitVec 32 := 2#32
  let v142 : BitVec 32 := Scalar.remsi arg11 c2_i32_150
  let c0_i32_286 : BitVec 32 := 0#32
  let c0_i32_287 : BitVec 32 := 0#32
  ![v142.toNat, 0, 0]
def k0_off15 (k0_t1 : Fin k0_t1_loop.trips) : Fin 3 → Nat :=
  let c0_i32_147 : BitVec 32 := 0#32
  let c1_i32_148 : BitVec 32 := 1#32
  let arg11 : BitVec 32 := Scf.iv c0_i32_147 c1_i32_148 k0_t1
  let c1_i32_151 : BitVec 32 := 1#32
  let v143 : BitVec 32 := Scalar.addi arg11 c1_i32_151
  let c2_i32_152 : BitVec 32 := 2#32
  let v144 : BitVec 32 := Scalar.remsi v143 c2_i32_152
  let c0_i32_288 : BitVec 32 := 0#32
  let c0_i32_289 : BitVec 32 := 0#32
  ![v144.toNat, 0, 0]
def k0_dev10 (d0 : Dev nD) : Nat :=
  let c0_i32_285 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_284 : BitVec 32 := 1#32
  let v295 : BitVec 32 := Scalar.muli v5 c1_i32_284
  let v296 : BitVec 32 := Scalar.addi c0_i32_285 v295
  v296.toNat
def k0_off16 (k0_t1 : Fin k0_t1_loop.trips) : Fin 3 → Nat :=
  let c0_i32_147 : BitVec 32 := 0#32
  let c1_i32_148 : BitVec 32 := 1#32
  let arg11 : BitVec 32 := Scf.iv c0_i32_147 c1_i32_148 k0_t1
  let c1_i32_151 : BitVec 32 := 1#32
  let v143 : BitVec 32 := Scalar.addi arg11 c1_i32_151
  let c2_i32_152 : BitVec 32 := 2#32
  let v144 : BitVec 32 := Scalar.remsi v143 c2_i32_152
  let v192 : Index := Scalar.indexCast v144
  let c0_195 : Index := 0#32
  let c0_196 : Index := 0#32
  ![v192.toNat, 0, 0]
def k0_off17 (d0 : Dev nD) (k0_t1 : Fin k0_t1_loop.trips) (c1_i32_191 : BitVec 32) (c0_i32_201 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_147 : BitVec 32 := 0#32
  let c1_i32_148 : BitVec 32 := 1#32
  let arg11 : BitVec 32 := Scf.iv c0_i32_147 c1_i32_148 k0_t1
  let c1_i32_190 : BitVec 32 := 1#32
  let v185 : BitVec 32 := Scalar.addi arg11 c1_i32_190
  let v186 : BitVec 32 := Scalar.muli c1_i32_191 v185
  let v187 : BitVec 32 := Scalar.subi v2 v186
  let c1_i32_192 : BitVec 32 := 1#32
  let v188 : BitVec 32 := Scalar.addi arg11 c1_i32_192
  let c8_i32_193 : BitVec 32 := 8#32
  let v189 : BitVec 32 := Scalar.muli v188 c8_i32_193
  let v190 : BitVec 32 := Scalar.addi v187 v189
  let c8_i32_194 : BitVec 32 := 8#32
  let v191 : BitVec 32 := Scalar.remsi v190 c8_i32_194
  let c1024_i32_200 : BitVec 32 := 1024#32
  let v198 : BitVec 32 := Scalar.muli v191 c1024_i32_200
  let v199 : BitVec 32 := Scalar.addi v198 c0_i32_201
  let v200 : Index := Scalar.indexCast v199
  let c0_202 : Index := 0#32
  ![v200.toNat, 0]
def k0_off17_at (r : Fin 4) : BitVec 32 × BitVec 32 :=
  if r.val < 2 then
    if r.val < 1 then
      (1#32, 0#32)
    else
      (4294967295#32, 512#32)
  else
    if r.val < 3 then
      (1#32, 256#32)
    else
      (4294967295#32, 768#32)
def k0_off18 (k0_t1 : Fin k0_t1_loop.trips) : Fin 2 → Nat :=
  let c2_i32_215 : BitVec 32 := 2#32
  let c0_i32_147 : BitVec 32 := 0#32
  let c1_i32_148 : BitVec 32 := 1#32
  let arg11 : BitVec 32 := Scf.iv c0_i32_147 c1_i32_148 k0_t1
  let c1_i32_151 : BitVec 32 := 1#32
  let v143 : BitVec 32 := Scalar.addi arg11 c1_i32_151
  let c2_i32_152 : BitVec 32 := 2#32
  let v144 : BitVec 32 := Scalar.remsi v143 c2_i32_152
  ![2, v144.toNat]
def k0_off19 (k0_t1 : Fin k0_t1_loop.trips) : Fin 2 → Nat :=
  let c2_i32_223 : BitVec 32 := 2#32
  let c0_i32_147 : BitVec 32 := 0#32
  let c1_i32_148 : BitVec 32 := 1#32
  let arg11 : BitVec 32 := Scf.iv c0_i32_147 c1_i32_148 k0_t1
  let c2_i32_150 : BitVec 32 := 2#32
  let v142 : BitVec 32 := Scalar.remsi arg11 c2_i32_150
  ![2, v142.toNat]
def k0_cond5 (k0_t1 : Fin k0_t1_loop.trips) : BitVec 1 :=
  let c0_i32_147 : BitVec 32 := 0#32
  let c1_i32_148 : BitVec 32 := 1#32
  let arg11 : BitVec 32 := Scf.iv c0_i32_147 c1_i32_148 k0_t1
  let c6_i32_230 : BitVec 32 := 6#32
  let v233 : BitVec 1 := Scalar.cmpi .slt arg11 c6_i32_230
  let v234 : BitVec 32 := Scalar.extui v233
  let c0_i32_231 : BitVec 32 := 0#32
  let v235 : BitVec 1 := Scalar.cmpi .ne v234 c0_i32_231
  v235

def k0_dev11 (d0 : Dev nD) : Nat :=
  let c0_i32_282 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_281 : BitVec 32 := 1#32
  let v295 : BitVec 32 := Scalar.muli v5 c1_i32_281
  let v296 : BitVec 32 := Scalar.addi c0_i32_282 v295
  v296.toNat
def k0_cond6 (k0_t1 : Fin k0_t1_loop.trips) : BitVec 1 :=
  let c0_i32_147 : BitVec 32 := 0#32
  let c1_i32_148 : BitVec 32 := 1#32
  let arg11 : BitVec 32 := Scf.iv c0_i32_147 c1_i32_148 k0_t1
  let c6_i32_232 : BitVec 32 := 6#32
  let v236 : BitVec 1 := Scalar.cmpi .slt arg11 c6_i32_232
  let v237 : BitVec 32 := Scalar.extui v236
  let c0_i32_233 : BitVec 32 := 0#32
  let v238 : BitVec 1 := Scalar.cmpi .ne v237 c0_i32_233
  v238

def k0_off20 (k0_t1 : Fin k0_t1_loop.trips) : Fin 2 → Nat :=
  let c2_i32_283 : BitVec 32 := 2#32
  let c0_i32_147 : BitVec 32 := 0#32
  let c1_i32_148 : BitVec 32 := 1#32
  let arg11 : BitVec 32 := Scf.iv c0_i32_147 c1_i32_148 k0_t1
  let c1_i32_151 : BitVec 32 := 1#32
  let v143 : BitVec 32 := Scalar.addi arg11 c1_i32_151
  let c2_i32_152 : BitVec 32 := 2#32
  let v144 : BitVec 32 := Scalar.remsi v143 c2_i32_152
  ![2, v144.toNat]
def k0_off21 (k0_t1 : Fin k0_t1_loop.trips) : Fin 2 → Nat :=
  let c2_i32_282 : BitVec 32 := 2#32
  let c0_i32_147 : BitVec 32 := 0#32
  let c1_i32_148 : BitVec 32 := 1#32
  let arg11 : BitVec 32 := Scf.iv c0_i32_147 c1_i32_148 k0_t1
  let c2_i32_150 : BitVec 32 := 2#32
  let v142 : BitVec 32 := Scalar.remsi arg11 c2_i32_150
  ![2, v142.toNat]
def k0_off22 (k0_t1 : Fin k0_t1_loop.trips) : Fin 3 → Nat :=
  let c0_i32_147 : BitVec 32 := 0#32
  let c1_i32_148 : BitVec 32 := 1#32
  let arg11 : BitVec 32 := Scf.iv c0_i32_147 c1_i32_148 k0_t1
  let c2_i32_150 : BitVec 32 := 2#32
  let v142 : BitVec 32 := Scalar.remsi arg11 c2_i32_150
  let c0_i32_286 : BitVec 32 := 0#32
  let c0_i32_287 : BitVec 32 := 0#32
  ![v142.toNat, 0, 0]
def k0_off23 (k0_t1 : Fin k0_t1_loop.trips) : Fin 3 → Nat :=
  let c0_i32_147 : BitVec 32 := 0#32
  let c1_i32_148 : BitVec 32 := 1#32
  let arg11 : BitVec 32 := Scf.iv c0_i32_147 c1_i32_148 k0_t1
  let c1_i32_151 : BitVec 32 := 1#32
  let v143 : BitVec 32 := Scalar.addi arg11 c1_i32_151
  let c2_i32_152 : BitVec 32 := 2#32
  let v144 : BitVec 32 := Scalar.remsi v143 c2_i32_152
  let c0_i32_288 : BitVec 32 := 0#32
  let c0_i32_289 : BitVec 32 := 0#32
  ![v144.toNat, 0, 0]
def k0_dev12 (d0 : Dev nD) : Nat :=
  let c0_i32_285 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_284 : BitVec 32 := 1#32
  let v295 : BitVec 32 := Scalar.muli v7 c1_i32_284
  let v296 : BitVec 32 := Scalar.addi c0_i32_285 v295
  v296.toNat
def k0_off24 (k0_t1 : Fin k0_t1_loop.trips) : Fin 2 → Nat :=
  let c3_i32_234 : BitVec 32 := 3#32
  let c0_i32_147 : BitVec 32 := 0#32
  let c1_i32_148 : BitVec 32 := 1#32
  let arg11 : BitVec 32 := Scf.iv c0_i32_147 c1_i32_148 k0_t1
  let c1_i32_151 : BitVec 32 := 1#32
  let v143 : BitVec 32 := Scalar.addi arg11 c1_i32_151
  let c2_i32_152 : BitVec 32 := 2#32
  let v144 : BitVec 32 := Scalar.remsi v143 c2_i32_152
  ![3, v144.toNat]
def k0_off25 (k0_t1 : Fin k0_t1_loop.trips) : Fin 2 → Nat :=
  let c3_i32_242 : BitVec 32 := 3#32
  let c0_i32_147 : BitVec 32 := 0#32
  let c1_i32_148 : BitVec 32 := 1#32
  let arg11 : BitVec 32 := Scf.iv c0_i32_147 c1_i32_148 k0_t1
  let c2_i32_150 : BitVec 32 := 2#32
  let v142 : BitVec 32 := Scalar.remsi arg11 c2_i32_150
  ![3, v142.toNat]
def k0_cond7 (k0_t1 : Fin k0_t1_loop.trips) : BitVec 1 :=
  let c0_i32_147 : BitVec 32 := 0#32
  let c1_i32_148 : BitVec 32 := 1#32
  let arg11 : BitVec 32 := Scf.iv c0_i32_147 c1_i32_148 k0_t1
  let c6_i32_249 : BitVec 32 := 6#32
  let v253 : BitVec 1 := Scalar.cmpi .slt arg11 c6_i32_249
  let v254 : BitVec 32 := Scalar.extui v253
  let c0_i32_250 : BitVec 32 := 0#32
  let v255 : BitVec 1 := Scalar.cmpi .ne v254 c0_i32_250
  v255

def k0_dev13 (d0 : Dev nD) : Nat :=
  let c0_i32_282 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_281 : BitVec 32 := 1#32
  let v295 : BitVec 32 := Scalar.muli v7 c1_i32_281
  let v296 : BitVec 32 := Scalar.addi c0_i32_282 v295
  v296.toNat
def k0_cond8 (k0_t1 : Fin k0_t1_loop.trips) : BitVec 1 :=
  let c0_i32_147 : BitVec 32 := 0#32
  let c1_i32_148 : BitVec 32 := 1#32
  let arg11 : BitVec 32 := Scf.iv c0_i32_147 c1_i32_148 k0_t1
  let c6_i32_251 : BitVec 32 := 6#32
  let v256 : BitVec 1 := Scalar.cmpi .slt arg11 c6_i32_251
  let v257 : BitVec 32 := Scalar.extui v256
  let c0_i32_252 : BitVec 32 := 0#32
  let v258 : BitVec 1 := Scalar.cmpi .ne v257 c0_i32_252
  v258

def k0_off26 (k0_t1 : Fin k0_t1_loop.trips) : Fin 2 → Nat :=
  let c3_i32_283 : BitVec 32 := 3#32
  let c0_i32_147 : BitVec 32 := 0#32
  let c1_i32_148 : BitVec 32 := 1#32
  let arg11 : BitVec 32 := Scf.iv c0_i32_147 c1_i32_148 k0_t1
  let c1_i32_151 : BitVec 32 := 1#32
  let v143 : BitVec 32 := Scalar.addi arg11 c1_i32_151
  let c2_i32_152 : BitVec 32 := 2#32
  let v144 : BitVec 32 := Scalar.remsi v143 c2_i32_152
  ![3, v144.toNat]
def k0_off27 (k0_t1 : Fin k0_t1_loop.trips) : Fin 2 → Nat :=
  let c3_i32_282 : BitVec 32 := 3#32
  let c0_i32_147 : BitVec 32 := 0#32
  let c1_i32_148 : BitVec 32 := 1#32
  let arg11 : BitVec 32 := Scf.iv c0_i32_147 c1_i32_148 k0_t1
  let c2_i32_150 : BitVec 32 := 2#32
  let v142 : BitVec 32 := Scalar.remsi arg11 c2_i32_150
  ![3, v142.toNat]
def k0_off28 (k0_t1 : Fin k0_t1_loop.trips) : Fin 3 → Nat :=
  let c0_i32_147 : BitVec 32 := 0#32
  let c1_i32_148 : BitVec 32 := 1#32
  let arg11 : BitVec 32 := Scf.iv c0_i32_147 c1_i32_148 k0_t1
  let c2_i32_150 : BitVec 32 := 2#32
  let v142 : BitVec 32 := Scalar.remsi arg11 c2_i32_150
  let c0_i32_286 : BitVec 32 := 0#32
  let c0_i32_287 : BitVec 32 := 0#32
  ![v142.toNat, 0, 0]
def k0_off29 (k0_t1 : Fin k0_t1_loop.trips) : Fin 3 → Nat :=
  let c0_i32_147 : BitVec 32 := 0#32
  let c1_i32_148 : BitVec 32 := 1#32
  let arg11 : BitVec 32 := Scf.iv c0_i32_147 c1_i32_148 k0_t1
  let c1_i32_151 : BitVec 32 := 1#32
  let v143 : BitVec 32 := Scalar.addi arg11 c1_i32_151
  let c2_i32_152 : BitVec 32 := 2#32
  let v144 : BitVec 32 := Scalar.remsi v143 c2_i32_152
  let c0_i32_288 : BitVec 32 := 0#32
  let c0_i32_289 : BitVec 32 := 0#32
  ![v144.toNat, 0, 0]
def k0_dev14 (d0 : Dev nD) : Nat :=
  let c0_i32_285 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_284 : BitVec 32 := 1#32
  let v295 : BitVec 32 := Scalar.muli v5 c1_i32_284
  let v296 : BitVec 32 := Scalar.addi c0_i32_285 v295
  v296.toNat
abbrev stage0_0 : Fin 1 → Memref sig .tc .vmem S8192x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x8192 : Shape := ⟨2, ![8192, 8192]⟩
abbrev S8192x4096 : Shape := ⟨2, ![8192, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x4096, .bf16⟩
  | .hbm, ⟨2, _⟩ => ⟨S8192x4096, .f32⟩
  | .hbm, ⟨3, _⟩ => ⟨S8192x4096, .bf16⟩
  | .hbm, ⟨4, _⟩ => ⟨S8192x4096, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Common.lean ====
/-
# The ring of eight: streams, slots, cells and the schedule

Every device works four STREAMS at once. Stream `st` moves one 256-row band of `x` round the ring, even streams to the
right and odd streams to the left; a device keeps the band in a two-slot buffer, receives hop `h` into slot
`(h + 1) % 2` and sends hop `h` out of slot `h % 2`. This file names those things once, at a symbolic device and a
symbolic stream, and states the schedule the semaphores are run under: who pays which unit of which semaphore, in which
round, and what comes with it.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Rings

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The logic's parameters: one ghost copy for the pipeline, one for the ring's cells; indices are hop numbers -/

abbrev UB : Type := URounds (GSem nD τ sig) Bool
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

abbrev 𝒱₀ : Variants := ⟨Empty, fun _ _ => False, ⟨fun v => v.elim⟩⟩

variable (m : (ℓ : Loc nD τ sig) → Buf (Elt F) ℓ) (ρ : Dev nD → PrngReg)

/-! ## The ring -/

set_option backward.proofsInPublic true in
def nxt (c : Dev nD) : Dev nD := ⟨(c.val + 1) % 8, Nat.mod_lt _ (by decide)⟩
set_option backward.proofsInPublic true in
def prv (c : Dev nD) : Dev nD := ⟨(c.val + 7) % 8, Nat.mod_lt _ (by decide)⟩

/-- Where stream `st` of a device goes, and where it comes from. -/
def fwd (st : Fin 4) (c : Dev nD) : Dev nD := if st.val % 2 = 0 then nxt c else prv c
def back (st : Fin 4) (c : Dev nD) : Dev nD := if st.val % 2 = 0 then prv c else nxt c

theorem back_fwd (st : Fin 4) (c : Dev nD) : back st (fwd st c) = c := by revert st c; decide
theorem fwd_back (st : Fin 4) (c : Dev nD) : fwd st (back st c) = c := by revert st c; decide

def ring (st : Fin 4) : Dev nD ≃ Dev nD := ⟨fwd st, back st, back_fwd st, fwd_back st⟩

/-- The device whose band a device holds in stream `st` after `h` hops. -/
def org (st : Fin 4) (h : ℕ) (c : Dev nD) : Dev nD := (back st)^[h] c

theorem org_zero (st : Fin 4) (c : Dev nD) : org st 0 c = c := rfl
theorem org_fwd (st : Fin 4) (h : ℕ) (c : Dev nD) : org st (h + 1) (fwd st c) = org st h c := by
  unfold org; rw [Function.iterate_succ_apply, back_fwd]

/-- After `h` hops round the ring of eight. -/
theorem org_all : ∀ (st : Fin 4) (c d : Dev nD), ∃ h < 8, org st h c = d := by unfold org; decide

/-! ## Slots -/

/-- The slot of an even / odd number. -/
def sl (n : ℕ) : Fin 2 := ⟨n % 2, Nat.mod_lt _ (by decide)⟩

theorem sl_add_two (n : ℕ) : sl (n + 2) = sl n := Fin.ext (Nat.add_mod_right n 2)

/-- The two-slot buffer of a stream. -/
def bufM : Fin 4 → Memref sig .tc .vmem S2x256x8192 .bf16
  | 0 => Memref.whole cc0_scratch0
  | 1 => Memref.whole cc0_scratch1
  | 2 => Memref.whole cc0_scratch2
  | 3 => Memref.whole cc0_scratch3

theorem slot_inb (s : Fin 2) : ∀ a, (![s.val, 0, 0] : Fin 3 → Nat) a + S1x256x8192.size a ≤ S2x256x8192.size a := by
  revert s; decide

/-- The rectangle of a slot in its buffer. -/
abbrev slotR (s : Fin 2) : Rect S2x256x8192 := Rect.unit (s := S2x256x8192) ![s.val, 0, 0] S1x256x8192.size (slot_inb s)

/-- A slot as the transfers name it: the slice with its unit axis squeezed away. -/
abbrev slotM (st : Fin 4) (s : Fin 2) : Memref sig .tc .vmem S256x8192 .bf16 :=
  ((bufM st).slice (slotR s) (fun _ => rfl)).squeeze S256x8192 squeezes_S1x256x8192_S256x8192

/-- A slice of a stream's buffer at offsets equal to a slot's is that slot. -/
theorem slotM_of (st : Fin 4) (s : Fin 2) {off : Fin 3 → Nat} (h : off = ![s.val, 0, 0])
    (inb : ∀ a, off a + S1x256x8192.size a ≤ S2x256x8192.size a) :
    ((bufM st).slice (Rect.unit (s := S2x256x8192) off S1x256x8192.size inb) (fun _ => rfl)).squeeze S256x8192 squeezes_S1x256x8192_S256x8192
      = slotM st s := by subst h; rfl

/-- What one transfer of a slot moves. -/
def N : ℕ := (slotM 0 0).view.dmaCredit
theorem credit_eq : ∀ (st : Fin 4) (s : Fin 2), (slotM st s).view.dmaCredit = N := by
  intro st s; fin_cases st <;> fin_cases s <;> rfl
theorem N_pos : 0 < N := View.dmaCredit_pos _ (by decide)

/-! ## The semaphores -/

/-- What a stream's semaphores are for: a slot received, a slot sent, a slot granted by the device ahead, the first copy. -/
inductive Kd where
  | recv (s : Fin 2) | send (s : Fin 2) | cred | copy
deriving DecidableEq

/-- A device's cells: the barrier, and a stream's six. -/
abbrev Role : Type := Unit ⊕ (Fin 4 × Kd)

def Kd.all : List Kd := [.recv 0, .recv 1, .send 0, .send 1, .cred, .copy]
theorem Kd.mem_all (k : Kd) : k ∈ Kd.all := by
  rcases k with s | s | _ | _ <;> (try fin_cases s) <;> decide
instance : Fintype Kd := ⟨⟨Kd.all, by decide⟩, Kd.mem_all⟩

set_option backward.proofsInPublic true in
/-- A stream's semaphores: received into a slot, sent out of a slot, leave to send, the first copy. -/
def recvQ (st : Fin 4) (s : Fin 2) : DmaSem sig := ⟨14 + 2 * st.val + s.val, by revert st s; decide⟩
set_option backward.proofsInPublic true in
def sendQ (st : Fin 4) (s : Fin 2) : DmaSem sig := ⟨6 + 2 * st.val + s.val, by revert st s; decide⟩
set_option backward.proofsInPublic true in
def credQ (st : Fin 4) : Sem sig := ⟨st.val, by revert st; decide⟩
set_option backward.proofsInPublic true in
def copyQ (st : Fin 4) : DmaSem sig := ⟨2 + st.val, by revert st; decide⟩

set_option backward.proofsInPublic true in
/-- The semaphore of a role. -/
def semOf : Role → SemLoc sig
  | .inl _ => .reg ⟨4, by decide⟩
  | .inr (st, .recv s) => .dma (recvQ st s)
  | .inr (st, .send s) => .dma (sendQ st s)
  | .inr (st, .cred) => .reg (credQ st)
  | .inr (st, .copy) => .dma (copyQ st)

set_option backward.proofsInPublic true in
/-- The role of a semaphore, if it has one. -/
def roleOf : SemLoc sig → Option Role
  | .reg q => if h : q.val < 4 then some (.inr (⟨q.val, h⟩, .cred)) else some (.inl ())
  | .dma q =>
    if 14 ≤ q.val then some (.inr (⟨(q.val - 14) / 2 % 4, Nat.mod_lt _ (by decide)⟩, .recv (sl q.val)))
    else if 6 ≤ q.val then some (.inr (⟨(q.val - 6) / 2 % 4, Nat.mod_lt _ (by decide)⟩, .send (sl q.val)))
    else if 2 ≤ q.val then some (.inr (⟨(q.val - 2) % 4, Nat.mod_lt _ (by decide)⟩, .copy))
    else none

theorem roleOf_semOf : ∀ R : Role, roleOf (semOf R) = some R := by
  rintro (⟨⟩ | ⟨st, s | s | _ | _⟩)
  · rfl
  · revert st s; decide
  · revert st s; decide
  · revert st; decide
  · revert st; decide

theorem semOf_injective : Function.Injective semOf := fun R R' h => by
  have := congrArg roleOf h; rw [roleOf_semOf, roleOf_semOf] at this; exact Option.some.inj this

/-- The cell of a device's role. -/
abbrev cell (c : Dev nD) (R : Role) : GSem nD τ sig := ((c : Thread nD τ), semOf R)

abbrev bar : Role := .inl ()
/-- The cells hop `h` of a stream completes on: the receiver's, the sender's. -/
abbrev rv (st : Fin 4) (h : ℕ) : Role := .inr (st, .recv (sl (h + 1)))
abbrev sd (st : Fin 4) (h : ℕ) : Role := .inr (st, .send (sl h))
abbrev cr (st : Fin 4) : Role := .inr (st, .cred)
abbrev cp (st : Fin 4) : Role := .inr (st, .copy)

/-! ## Contents -/

/-- The first row, within a device's rows of `x`, of the band stream `st` moves. -/
def row0 : Fin 4 → ℕ | 0 => 0 | 1 => 512 | 2 => 256 | 3 => 768

theorem xband_inb (st : Fin 4) : ∀ a, (![row0 st, 0] : Fin 2 → Nat) a + S256x8192.size a ≤ S1024x8192.size a := by
  revert st; decide

/-- The band of `x` stream `st` starts with. -/
abbrev xband (st : Fin 4) : Memref sig .tc .hbm S256x8192 .bf16 :=
  (Memref.whole main_arg0 : Memref sig .tc .hbm S1024x8192 .bf16).slice (Rect.unit (s := S1024x8192) ![row0 st, 0] S256x8192.size (xband_inb st)) (fun _ => rfl)

/-- Its contents on a device. -/
def chunk (st : Fin 4) (c : Dev nD) : S256x8192.Idx → Elt F .bf16 :=
  (xband st).view.read (Elt F) (m ((c : Thread nD τ).loc main_arg0))

/-- A slot held at a share, at some contents. -/
abbrev slotPts (c : Dev nD) (st : Fin 4) (s : Fin 2) (q : PosShare TreeShare) (f : Buf (Elt F) ((slotM st s).view.loc (c : Thread nD τ))) : sProp 𝕄 :=
  (slotM st s).view.loc (c : Thread nD τ) ↦[(slotM st s).view.set]{q} f

/-- A slot whole, whatever it holds. -/
def slotAny (c : Dev nD) (st : Fin 4) (s : Fin 2) : sProp 𝕄 := iprop(∃ f, slotPts c st s fullShare f)

/-- A slot that holds device `o`'s band. -/
def slotHas (c : Dev nD) (st : Fin 4) (s : Fin 2) (o : Dev nD) (q : PosShare TreeShare) : sProp 𝕄 :=
  iprop(∃ f, ⌜(slotM st s).view.read (Elt F) f = chunk m st o⌝ ∗ slotPts c st s q f)

omit [FloatOps F] in
instance slotAny_storable (c : Dev nD) (st : Fin 4) (s : Fin 2) : BI.Storable (upEmb : UEmb _ 𝕄) (slotAny (F := F) c st s) := by
  unfold slotAny; infer_instance
omit [FloatOps F] in
instance slotHas_storable (c : Dev nD) (st : Fin 4) (s : Fin 2) (o : Dev nD) (q : PosShare TreeShare) :
    BI.Storable (upEmb : UEmb _ 𝕄) (slotHas (F := F) m c st s o q) := by
  unfold slotHas; infer_instance

omit [FloatOps F] in
theorem slotHas_any (c : Dev nD) (st : Fin 4) (s : Fin 2) (o : Dev nD) : slotHas m c st s o fullShare ⊢ (slotAny c st s : sProp 𝕄) := by
  unfold slotHas slotAny
  iintro ⟨%f, -, H⟩; iexists f; iexact H

omit [FloatOps F] in
theorem slotHas_halves (c : Dev nD) (st : Fin 4) (s : Fin 2) (o : Dev nD) :
    slotHas m c st s o fullShare ⊢ (iprop(slotHas m c st s o fullShare.left ∗ slotHas m c st s o fullShare.right) : sProp 𝕄) := by
  unfold slotHas
  iintro ⟨%f, %hf, H⟩
  ihave H2 := (pointsTo_share (PosShare.mem_left_op_right fullShare)).1 $$ H
  icases H2 with ⟨H1, H2⟩
  isplitl [H1]
  · iexists f; isplitr; · (ipureintro; exact hf)
    iexact H1
  · iexists f; isplitr; · (ipureintro; exact hf)
    iexact H2

omit [FloatOps F] in
/-- Both halves of a slot make it whole again. -/
theorem slotHas_join (c : Dev nD) (st : Fin 4) (s : Fin 2) (o : Dev nD) :
    iprop(slotHas m c st s o fullShare.left ∗ slotHas m c st s o fullShare.right) ⊢ (slotAny c st s : sProp 𝕄) := by
  unfold slotHas slotAny
  iintro ⟨⟨%f, %hf, H⟩, ⟨%g, %hg, H'⟩⟩
  ihave %he := (pointsTo_agree (ℓ := (slotM st s).view.loc (c : Thread nD τ))) $$ [H H']
  · isplitl [H] <;> iassumption
  iexists f
  iapply (pointsTo_share (PosShare.mem_left_op_right fullShare)).2
  isplitl [H]; · iexact H
  rw [pointsTo_congr (g := g) (fun i hi => (he i (Finset.mem_inter.mpr ⟨hi, hi⟩)).1)]
  iexact H'

/-! ## The schedule -/

/-- Leave to send hop `h` of a stream: the slot ahead, empty, and the cell it will complete on in the right round. -/
def grant (c : Dev nD) (st : Fin 4) (h : ℕ) : sProp 𝕄 :=
  iprop(slotAny (F := F) (fwd st c) st (sl (h + 1)) ∗ reached ER (cell (fwd st c) (rv st h)) (h / 2))

/-- What comes with a received slot: the band that left `h + 1` devices back, and how far the sender's credits are. -/
def landed (c : Dev nD) (st : Fin 4) (h : ℕ) : sProp 𝕄 :=
  iprop(slotHas m c st (sl (h + 1)) (org st (h + 1) c) fullShare ∗ reached ER (cell (back st c) (cr st)) h)

def pay : Role → Dev nD → ℕ → Bool → sProp 𝕄
  | .inl _, c, _, b => if b then iprop(grant c 0 0 ∗ grant c 2 0) else iprop(grant c 1 0 ∗ grant c 3 0)
  | .inr (st, .recv s), c, r, _ => landed m c st (2 * r + 1 - s.val)
  | .inr (st, .send s), c, r, _ => slotHas m c st s (org st (2 * r + s.val) c) fullShare.right
  | .inr (st, .cred), c, r, _ => grant c st (r + 1)
  | .inr (st, .copy), c, _, _ => slotHas m c st 0 c fullShare

def dut : Role → ℕ → Finset Bool
  | .inl _, r => if r = 0 then Finset.univ else ∅
  | .inr (_, .recv s), r => if 2 * r + 1 - s.val < 7 then {false} else ∅
  | .inr (_, .send s), r => if 2 * r + s.val < 7 then {false} else ∅
  | .inr (_, .cred), r => if r < 6 then {false} else ∅
  | .inr (_, .copy), r => if r = 0 then {false} else ∅

def amt : Role → ℕ
  | .inl _ => 1 | .inr (_, .cred) => 1 | .inr (_, _) => N

theorem amt_pos (R : Role) : 0 < amt R := by
  rcases R with _ | ⟨st, s | s | _ | _⟩
  · exact Nat.one_pos
  · exact N_pos
  · exact N_pos
  · exact Nat.one_pos
  · exact N_pos

def Rd : Rounds.Schedule (GSem nD τ sig) Bool 𝕄 where
  duties g r := match g.1.2, roleOf g.2 with | .tc, some R => dut R r | _, _ => ∅
  unitless _ := False
  amount g _ _ := match roleOf g.2 with | some R => amt R | none => 1
  payload g r d := match roleOf g.2 with | some R => pay m R g.1.1 r d | none => iprop(emp)
  amount_pos g _ _ _ := by split <;> first | exact amt_pos _ | exact Nat.one_pos

omit [FloatOps F] in
instance grant_storable (c : Dev nD) (st : Fin 4) (h : ℕ) : BI.Storable (upEmb : UEmb _ 𝕄) (grant (F := F) c st h) := by
  unfold grant; infer_instance
omit [FloatOps F] in
instance landed_storable (c : Dev nD) (st : Fin 4) (h : ℕ) : BI.Storable (upEmb : UEmb _ 𝕄) (landed (F := F) m c st h) := by
  unfold landed; infer_instance
omit [FloatOps F] in
instance pay_storable (R : Role) (c : Dev nD) (r : ℕ) (d : Bool) : BI.Storable (upEmb : UEmb _ 𝕄) (pay (F := F) m R c r d) := by
  rcases R with _ | ⟨st, s | s | _ | _⟩
  · cases d
    · show BI.Storable _ (iprop(grant c 1 0 ∗ grant c 3 0)); infer_instance
    · show BI.Storable _ (iprop(grant c 0 0 ∗ grant c 2 0)); infer_instance
  · exact landed_storable m c st _
  · exact slotHas_storable m c st s _ _
  · exact grant_storable c st _
  · exact slotHas_storable m c st 0 _ _
omit [FloatOps F] in
instance Rd_payload_storable (g : GSem nD τ sig) (r : ℕ) (d : Bool) : BI.Storable (upEmb : UEmb _ 𝕄) ((Rd (F := F) m).payload g r d) := by
  dsimp only [Rd]; split <;> infer_instance

section Sched
variable (c : Dev nD) (R : Role) (r : ℕ)

omit [FloatOps F] in
theorem duties_cell : (Rd (F := F) m).duties (cell c R) r = dut R r := by dsimp only [Rd]; rw [roleOf_semOf]
omit [FloatOps F] in
theorem amount_cell (d : Bool) : (Rd (F := F) m).amount (cell c R) r d = amt R := by dsimp only [Rd]; rw [roleOf_semOf]
omit [FloatOps F] in
theorem payload_cell (d : Bool) : (Rd (F := F) m).payload (cell c R) r d = pay m R c r d := by dsimp only [Rd]; rw [roleOf_semOf]

omit [FloatOps F] in
theorem expect_cell : (Rd (F := F) m).expect (cell c R) r = (dut R r).card * amt R := by
  unfold Schedule.expect Schedule.amountOf
  rw [duties_cell, Finset.sum_congr rfl fun d _ => amount_cell m c R r d, Finset.sum_const, smul_eq_mul]

omit [FloatOps F] in
theorem rest_single (h : dut R r = {false}) :
    bigSep ((Rd (F := F) m).duties (cell c R) r \ ∅) (fun d => (Rd (F := F) m).payload (cell c R) r d) = pay m R c r false := by
  rw [Finset.sdiff_empty, duties_cell, h, bigSep_singleton, payload_cell]
omit [FloatOps F] in
theorem rest_bar : bigSep ((Rd (F := F) m).duties (cell c bar) 0 \ ∅) (fun d => (Rd (F := F) m).payload (cell c bar) 0 d)
    = iprop((grant c 1 0 ∗ grant c 3 0) ∗ grant c 0 0 ∗ grant c 2 0) := by
  rw [Finset.sdiff_empty, duties_cell, show dut bar 0 = Finset.univ from rfl, bigSep_univ_eq_bigSepL [false, true] (by decide) (by decide),
    bigSepL_cons_cons, bigSepL_singleton, payload_cell, payload_cell]
  rfl

end Sched

theorem dut_rv (st : Fin 4) {h : ℕ} (hh : h < 7) : dut (rv st h) (h / 2) = {false} :=
  if_pos (show 2 * (h / 2) + 1 - (h + 1) % 2 < 7 by omega)
theorem dut_sd (st : Fin 4) {h : ℕ} (hh : h < 7) : dut (sd st h) (h / 2) = {false} :=
  if_pos (show 2 * (h / 2) + h % 2 < 7 by omega)
theorem dut_cr (st : Fin 4) {h : ℕ} (hh : h < 6) : dut (cr st) h = {false} := if_pos hh
theorem dut_cp (st : Fin 4) : dut (cp st) 0 = {false} := rfl

omit [FloatOps F] in
theorem pay_rv (st : Fin 4) (h : ℕ) (c : Dev nD) : pay m (rv st h) c (h / 2) false = (landed m c st h : sProp 𝕄) := by
  show landed m c st (2 * (h / 2) + 1 - (h + 1) % 2) = _
  rw [show 2 * (h / 2) + 1 - (h + 1) % 2 = h by omega]
omit [FloatOps F] in
theorem pay_sd (st : Fin 4) (h : ℕ) (c : Dev nD) : pay m (sd st h) c (h / 2) false = (slotHas m c st (sl h) (org st h c) fullShare.right : sProp 𝕄) := by
  show slotHas m c st (sl h) (org st (2 * (h / 2) + h % 2) c) fullShare.right = _
  rw [show 2 * (h / 2) + h % 2 = h by omega]

/-- The last round of a cell: past it nothing is due. -/
def last : Role → ℕ
  | .inl _ => 1
  | .inr (_, .recv s) => 3 + s.val
  | .inr (_, .send s) => 4 - s.val
  | .inr (_, .cred) => 6
  | .inr (_, .copy) => 1

omit [FloatOps F] in
theorem duties_later (c : Dev nD) (R : Role) : ∀ r, last R ≤ r → (Rd (F := F) m).duties (cell c R) r = ∅ := fun r hr => by
  rw [duties_cell]
  rcases R with _ | ⟨st, s | s | _ | _⟩ <;> simp only [last] at hr <;> simp only [dut] <;> refine if_neg ?_
  · omega
  · have := s.isLt; omega
  · have := s.isLt; omega
  · omega
  · omega

/-! ## The kernel's own names for the semaphores -/

theorem grid_inb (st : Fin 4) (s : Fin 2) : ∀ a, (![st.val, s.val] : Fin 2 → Nat) a + S1x1.size a ≤ S4x2.size a := by revert st s; decide
theorem line_inb (st : Fin 4) : ∀ a, (![st.val] : Fin 1 → Nat) a + S1.size a ≤ S4.size a := by revert st; decide

theorem recvQ_at : ∀ (st : Fin 4) (s : Fin 2), ((cc0_scratch6.slice (Rect.unit (s := S4x2) ![st.val, s.val] S1x1.size (grid_inb st s))).squeeze S_ squeezes_S1x1_S_).sem = recvQ st s := by
  decide +kernel
theorem recvQ_of (st : Fin 4) (s : Fin 2) {off : Fin 2 → Nat} (h : off = ![st.val, s.val]) (inb : ∀ a, off a + S1x1.size a ≤ S4x2.size a) :
    ((cc0_scratch6.slice (Rect.unit (s := S4x2) off S1x1.size inb)).squeeze S_ squeezes_S1x1_S_).sem = recvQ st s := by subst h; exact recvQ_at st s
theorem sendQ_at : ∀ (st : Fin 4) (s : Fin 2), ((cc0_scratch5.slice (Rect.unit (s := S4x2) ![st.val, s.val] S1x1.size (grid_inb st s))).squeeze S_ squeezes_S1x1_S_).sem = sendQ st s := by
  decide +kernel
theorem sendQ_of (st : Fin 4) (s : Fin 2) {off : Fin 2 → Nat} (h : off = ![st.val, s.val]) (inb : ∀ a, off a + S1x1.size a ≤ S4x2.size a) :
    ((cc0_scratch5.slice (Rect.unit (s := S4x2) off S1x1.size inb)).squeeze S_ squeezes_S1x1_S_).sem = sendQ st s := by subst h; exact sendQ_at st s
theorem credQ_at : ∀ (st : Fin 4), ((cc0_scratch7.slice (Rect.unit (s := S4) ![st.val] S1.size (line_inb st))).squeeze S_ squeezes_S1_S_).sem = credQ st := by
  decide +kernel
theorem credQ_of (st : Fin 4) {off : Fin 1 → Nat} (h : off = ![st.val]) (inb : ∀ a, off a + S1.size a ≤ S4.size a) :
    ((cc0_scratch7.slice (Rect.unit (s := S4) off S1.size inb)).squeeze S_ squeezes_S1_S_).sem = credQ st := by subst h; exact credQ_at st
theorem copyQ_at : ∀ (st : Fin 4), ((cc0_scratch4.slice (Rect.unit (s := S4) ![st.val] S1.size (line_inb st))).squeeze S_ squeezes_S1_S_).sem = copyQ st := by
  decide +kernel
theorem copyQ_of (st : Fin 4) {off : Fin 1 → Nat} (h : off = ![st.val]) (inb : ∀ a, off a + S1.size a ≤ S4.size a) :
    ((cc0_scratch4.slice (Rect.unit (s := S4) off S1.size inb)).squeeze S_ squeezes_S1_S_).sem = copyQ st := by subst h; exact copyQ_at st

end Cert.Rings

end
-- ==== Proof.Owe.lean ====
/-
# What a device owes

A device owes the devices ahead the bands it has still to send, and the devices behind the leave it has still to give.
The units are ordered by levels, one trip after the other and one stream after the other within a trip, so that no wait
is for a unit at or above what the waiting device still owes.
-/
module

public import proofs.«01_k».proof.Proof.Common

@[expose] public section

noncomputable section

namespace Cert.Rings

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (sum_pos_exists add_pos_cases mayWait_of_levAts tallyAt_pos)

variable {F : FTy → Type} [FloatOps F]

local notation "𝕄" => MT nD τ sig ℕ (Elt F) ℕ UU ℕ

/-! ## What a device owes, and the levels that order the waits -/

/-- What device `c` owes when stream `st` has hops from `a st` and credits from `b st` on still to send. -/
def Owe (c : Dev nD) (a b : Fin 4 → ℕ) : CellTallies nD τ sig ℕ :=
  ∑ st : Fin 4, ((∑ j ∈ Finset.Ico (a st) 7, tallyAt (cell (fwd st c) (rv st j)) j N)
    + ∑ j ∈ Finset.Ico (b st) 6, tallyAt (cell (back st c) (cr st)) j 1)

/-- At launch: everything, and a unit of each neighbour's barrier. -/
def O₁ (c : Dev nD) : CellTallies nD τ sig ℕ := Owe c (fun _ => 0) (fun _ => 0) + tallyAt (cell (nxt c) bar) 0 1
def O₀ (c : Dev nD) : CellTallies nD τ sig ℕ := O₁ c + tallyAt (cell (prv c) bar) 0 1

def L (g : GSem nD τ sig) : Finset ℕ := if g.1.2 = .tc then Finset.range 8 else ∅

def lvR : Role → ℕ → ℕ
  | .inl _, _ => 1
  | .inr (st, .recv _), i => 2 + 8 * i + 2 * st.val
  | .inr (st, .cred), i => 3 + 8 * i + 2 * st.val
  | .inr (_, _), _ => 0
def lv (g : GSem nD τ sig) (i : ℕ) : ℕ := match roleOf g.2 with | some R => lvR R i | none => 0

theorem lv_cell (c : Dev nD) (R : Role) (i : ℕ) : lv (cell c R) i = lvR R i := by unfold lv; rw [roleOf_semOf]
theorem L_of_ne (g : GSem nD τ sig) (h : g.1.2 ≠ .tc) : L g = ∅ := if_neg h
theorem L_cell (c : Dev nD) (s : SemLoc sig) : L ((c : Thread nD τ), s) = Finset.range 8 := if_pos rfl

theorem Owe_pos {c : Dev nD} {a b : Fin 4 → ℕ} {g : GSem nD τ sig} {i : ℕ} (h : 0 < Owe c a b g i) :
    (∃ st : Fin 4, a st ≤ i ∧ i < 7 ∧ g = cell (fwd st c) (rv st i)) ∨ (∃ st : Fin 4, b st ≤ i ∧ i < 6 ∧ g = cell (back st c) (cr st)) := by
  unfold Owe at h
  obtain ⟨st, -, h⟩ := sum_pos_exists h
  rcases add_pos_cases h with h | h
  · obtain ⟨j, hj, h⟩ := sum_pos_exists h
    obtain ⟨rfl, rfl⟩ := tallyAt_pos h
    rw [Finset.mem_Ico] at hj
    exact .inl ⟨st, hj.1, hj.2, rfl⟩
  · obtain ⟨j, hj, h⟩ := sum_pos_exists h
    obtain ⟨rfl, rfl⟩ := tallyAt_pos h
    rw [Finset.mem_Ico] at hj
    exact .inr ⟨st, hj.1, hj.2, rfl⟩

theorem O₀_pos {c : Dev nD} {g : GSem nD τ sig} {i : ℕ} (h : 0 < O₀ c g i) : i < 8 ∧ (∃ d, g.1 = (d : Dev nD).tc) ∧ 0 < lv g i := by
  unfold O₀ O₁ at h
  rcases add_pos_cases h with h | h
  · rcases add_pos_cases h with h | h
    · rcases Owe_pos h with ⟨st, -, hi, rfl⟩ | ⟨st, -, hi, rfl⟩
      · exact ⟨by omega, ⟨_, rfl⟩, by rw [lv_cell]; unfold lvR; dsimp only; omega⟩
      · exact ⟨by omega, ⟨_, rfl⟩, by rw [lv_cell]; unfold lvR; dsimp only; omega⟩
    · obtain ⟨rfl, rfl⟩ := tallyAt_pos h
      exact ⟨by omega, ⟨_, rfl⟩, by rw [lv_cell]; unfold lvR; dsimp only; omega⟩
  · obtain ⟨rfl, rfl⟩ := tallyAt_pos h
    exact ⟨by omega, ⟨_, rfl⟩, by rw [lv_cell]; unfold lvR; dsimp only; omega⟩

/-- Stream `st` done in the current trip, the streams from `p` on not yet. -/
def upto (k p : ℕ) (st : Fin 4) : ℕ := if st.val < p then k + 1 else k

theorem upto_zero (k : ℕ) : upto k 0 = fun _ => k := funext fun st => if_neg (Nat.not_lt_zero _)
theorem upto_four (k : ℕ) : upto k 4 = fun _ => k + 1 := funext fun st => if_pos st.isLt

theorem upto_self (k : ℕ) (st : Fin 4) : upto k st.val st = k := if_neg (Nat.lt_irrefl _)
theorem upto_succ_self (k : ℕ) (st : Fin 4) : upto k (st.val + 1) st = k + 1 := if_pos (Nat.lt_succ_self _)
theorem upto_succ_ne (k : ℕ) {st st' : Fin 4} (h : st' ≠ st) : upto k (st.val + 1) st' = upto k st.val st' := by
  have : st'.val ≠ st.val := fun e => h (Fin.ext e)
  unfold upto
  by_cases h1 : st'.val < st.val
  · rw [if_pos h1, if_pos (by omega)]
  · rw [if_neg h1, if_neg (by omega)]

/-- One stream's step of a sum over the streams. -/
theorem sum_upto {M : Type} [AddCommMonoid M] (g : Fin 4 → ℕ → M) (t : M) (st : Fin 4) (k : ℕ) (h : g st k = g st (k + 1) + t) :
    ∑ s : Fin 4, g s (upto k st.val s) = (∑ s : Fin 4, g s (upto k (st.val + 1) s)) + t := by
  rw [← Finset.add_sum_erase Finset.univ (fun s => g s (upto k st.val s)) (Finset.mem_univ st),
    ← Finset.add_sum_erase Finset.univ (fun s => g s (upto k (st.val + 1) s)) (Finset.mem_univ st)]
  rw [upto_self, upto_succ_self, h, add_right_comm]
  congr 2
  exact Finset.sum_congr rfl fun s hs => by rw [upto_succ_ne k (Finset.ne_of_mem_erase hs)]

theorem sum_first {M : Type} [AddCommMonoid M] (f : ℕ → M) {k n : ℕ} (h : k < n) : ∑ j ∈ Finset.Ico k n, f j = (∑ j ∈ Finset.Ico (k + 1) n, f j) + f k := by
  rw [add_comm, ← Finset.sum_insert (by rw [Finset.mem_Ico]; omega)]
  congr 1
  ext j; rw [Finset.mem_insert, Finset.mem_Ico, Finset.mem_Ico]; omega

/-- Sending hop `k` of stream `st` pays one transfer of what is owed. -/
theorem Owe_send (c : Dev nD) (b : Fin 4 → ℕ) (st : Fin 4) {k : ℕ} (hk : k < 7) :
    Owe c (upto k st.val) b = Owe c (upto k (st.val + 1)) b + tallyAt (cell (fwd st c) (rv st k)) k N := by
  unfold Owe
  rw [Finset.sum_add_distrib, Finset.sum_add_distrib,
    sum_upto (fun s a => ∑ j ∈ Finset.Ico a 7, tallyAt (cell (fwd s c) (rv s j)) j N) (tallyAt (cell (fwd st c) (rv st k)) k N) st k
      (sum_first _ hk), add_right_comm]

/-- Giving leave for hop `k + 1` of stream `st` pays one credit of what is owed. -/
theorem Owe_cred (c : Dev nD) (a : Fin 4 → ℕ) (st : Fin 4) {k : ℕ} (hk : k < 6) :
    Owe c a (upto k st.val) = Owe c a (upto k (st.val + 1)) + tallyAt (cell (back st c) (cr st)) k 1 := by
  unfold Owe
  rw [Finset.sum_add_distrib, Finset.sum_add_distrib,
    sum_upto (fun s b => ∑ j ∈ Finset.Ico b 6, tallyAt (cell (back s c) (cr s)) j 1) (tallyAt (cell (back st c) (cr st)) k 1) st k
      (sum_first _ hk), add_assoc]

/-- When everything is sent nothing is owed. -/
theorem Owe_done (c : Dev nD) {a b : Fin 4 → ℕ} (ha : ∀ s, 7 ≤ a s) (hb : ∀ s, 6 ≤ b s) : Owe c a b = 0 := by
  unfold Owe
  refine Finset.sum_eq_zero fun s _ => ?_
  rw [Finset.Ico_eq_empty (by have := ha s; omega), Finset.Ico_eq_empty (by have := hb s; omega), Finset.sum_empty, Finset.sum_empty, add_zero]

/-- A device may wait for what lies below everything it owes. -/
theorem mayWait_owe (c : Dev nD) (R : Role) (i : ℕ) (a b : Fin 4 → ℕ) (hi : i < 8)
    (ha : ∀ (s : Fin 4) (j : ℕ), a s ≤ j → lvR R i < 2 + 8 * j + 2 * s.val)
    (hb : ∀ (s : Fin 4) (j : ℕ), b s ≤ j → lvR R i < 3 + 8 * j + 2 * s.val) :
    levAts L lv ⊢ (MayWait (c : Thread nD τ) (semOf R) i (Owe c a b) : sProp 𝕄) := by
  refine mayWait_of_levAts (by rw [L_cell]; exact Finset.mem_range.mpr hi) fun g j h => ?_
  rcases Owe_pos h with ⟨s, hs, hj, rfl⟩ | ⟨s, hs, hj, rfl⟩
  · exact ⟨by rw [L_cell]; exact Finset.mem_range.mpr (by omega), by rw [lv_cell, lv_cell]; exact ha s j hs⟩
  · exact ⟨by rw [L_cell]; exact Finset.mem_range.mpr (by omega), by rw [lv_cell, lv_cell]; exact hb s j hs⟩

/-- Before anything is sent a device may wait for its copies, and for its staged blocks. -/
theorem mayWait_start (c : Dev nD) (s : SemLoc sig) (hs : lv ((c : Thread nD τ), s) 0 = 0) :
    levAts L lv ⊢ (MayWait (c : Thread nD τ) s 0 (O₀ c) : sProp 𝕄) := by
  refine mayWait_of_levAts (by rw [L_cell]; exact Finset.mem_range.mpr (by omega)) fun g j h => ?_
  obtain ⟨hj, ⟨d, hd⟩, hl⟩ := O₀_pos h
  refine ⟨?_, by rw [hs]; exact hl⟩
  unfold L; rw [if_pos (by rw [hd])]; exact Finset.mem_range.mpr hj

end Cert.Rings

end
-- ==== Proof.Steps.lean ====
/-
# The steps of a stream

A trip of the kernel takes each stream through five instructions: wait for the band that arrives, wait until the one that
left has left, give the device behind leave to send again, wait for leave from the device ahead, send on. This file says
what a device holds of a stream between those instructions, and proves one rule per instruction at a symbolic device,
stream and hop.
-/
module

public import proofs.«01_k».proof.Proof.Owe
public import Idealize.SL.BI.BigOpNat

@[expose] public section

noncomputable section

namespace Cert.Rings

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (sum_pos_exists add_pos_cases mayWait_of_levAts tallyAt_pos)

variable {F : FTy → Type} [FloatOps F]

local notation "𝕄" => MT nD τ sig ℕ (Elt F) ℕ UU ℕ

variable (m : (ℓ : Loc nD τ sig) → Buf (Elt F) ℓ) (ρ : Dev nD → PrngReg)

/-! ## What is known of every cell -/

variable (K : Dev nD × Role → ℕ)

/-- The invariant of every cell of every device, and that its first round is open. -/
def Recs : sProp 𝕄 := bigSep Finset.univ fun x : Dev nD × Role => iprop(cellInv ER (Rd m) (K x) (cell x.1 x.2) ∗ reached ER (cell x.1 x.2) 0)

omit [FloatOps F] in
instance Recs_persistent : Persistent (Recs (F := F) m K) := by unfold Recs; infer_instance

omit [FloatOps F] in
theorem Recs_at (c : Dev nD) (R : Role) : Recs m K ⊢ (iprop(cellInv ER (Rd m) (K (c, R)) (cell c R) ∗ reached ER (cell c R) 0) : sProp 𝕄) :=
  bigSep_elim (Finset.mem_univ (c, R))

/-! ## What a device holds of a stream -/

/-- The owner of a cell, at round `r` of it. -/
def At (c : Dev nD) (R : Role) (r : ℕ) : sProp 𝕄 := iprop(atPos ER (cell c R) r ∅ 0 ∗ reached ER (cell c R) r)

/-- A device's place in a stream: the next hop to arrive is `a`, the next to have left is `b`, credits are taken up to `e`. -/
def Pos (c : Dev nD) (st : Fin 4) (a b e : ℕ) : sProp 𝕄 :=
  iprop(At c (rv st a) (a / 2) ∗ At c (rv st (a + 1)) ((a + 1) / 2) ∗ At c (sd st b) (b / 2) ∗ At c (sd st (b + 1)) ((b + 1) / 2) ∗ At c (cr st) e)

/-- The two duties of the transfer of hop `j`. -/
def hopTok (c : Dev nD) (st : Fin 4) (j : ℕ) : sProp 𝕄 :=
  iprop(dutyTok ER (cell (fwd st c) (rv st j)) (j / 2) false ∗ dutyTok ER (cell c (sd st j)) (j / 2) false)

/-- What a device has still to do in a stream: hops to send from `p`, leave to give from `d`, hops to receive from `w`, leave
    to wait for from `y`. -/
def Tok (c : Dev nD) (st : Fin 4) (p d w y : ℕ) : sProp 𝕄 :=
  iprop(bigSep (Finset.Ico p 7) (fun j => hopTok c st j)
    ∗ bigSep (Finset.Ico d 6) (fun j => dutyTok ER (cell (back st c) (cr st)) j false)
    ∗ bigSep (Finset.Ico w 7) (fun j => cred (tallyAt (cell c (rv st j)) j N))
    ∗ bigSep (Finset.Ico y 6) (fun j => cred (tallyAt (cell c (cr st)) j 1)))

/-- The band a device holds before trip `k`: lent in half to the transfer of hop `k`, whole when no hop is left. -/
def Fly (c : Dev nD) (st : Fin 4) (k : ℕ) : sProp 𝕄 :=
  if k < 7 then iprop(cred (tallyAt (cell c (sd st k)) k N) ∗ slotHas m c st (sl k) (org st k c) fullShare.left)
  else iprop(slotHas m c st (sl k) (org st k c) fullShare ∗ slotAny c st (sl (k + 1)))

/-- A device owes `O`, whatever it has waited for. -/
def Owing (c : Dev nD) (O : CellTallies nD τ sig ℕ) : sProp 𝕄 := iprop(∃ W, owes (c : Thread nD τ) O W)

/-- A device owes what is left of its hops and credits. -/
abbrev Owes (c : Dev nD) (a b : Fin 4 → ℕ) : sProp 𝕄 := Owing c (Owe c a b)

omit [FloatOps F] in
/-- Either way the band can be read. -/
theorem Fly_read (c : Dev nD) (st : Fin 4) (k : ℕ) :
    Fly m c st k ⊢ (iprop(∃ q, slotHas m c st (sl k) (org st k c) q ∗ (slotHas m c st (sl k) (org st k c) q -∗ Fly m c st k)) : sProp 𝕄) := by
  unfold Fly
  split
  · iintro ⟨Hc, Hs⟩; iexists fullShare.left
    isplitl [Hs]; · iexact Hs
    iintro Hs; isplitl [Hc] <;> iassumption
  · iintro ⟨Hs, Hc⟩; iexists fullShare
    isplitl [Hs]; · iexact Hs
    iintro Hs; isplitl [Hs] <;> iassumption

/-! ## The five steps -/

section Steps
variable (c : Dev nD) (st : Fin 4)

/-- A wait for a whole round of a transfer's cell. -/
theorem wait_cell {α : Type} {Q : α → sProp 𝕄} {k : PUnit → Prog (TpuEff nD τ sig (Elt F) Λ₀ .tc) α} (R : Role) (q : DmaSem sig) (hq : semOf R = .dma q) (r i : ℕ) (hd : dut R r = {false}) (ha : amt R = N) (O : CellTallies nD τ sig ℕ)
    {sp sp' : Space} {s' : Shape} {e' : EltTy} {src : Memref sig .tc sp s' e'} {dst : Memref sig .tc sp' S256x8192 .bf16} {hsrc : src.view.WordExact} {hdst : dst.view.WordExact}
    (hN : dst.view.dmaCredit = N) :
    iprop(Recs m K ∗ cred (tallyAt (cell c R) i N) ∗ Owing c O ∗ MayWait (c : Thread nD τ) (semOf R) i (O) ∗ At c R r)
      ⊢ iprop(((Owing c O ∗ At c R (r + 1) ∗ pay m R c r false) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  have hx := rest_single m c R r hd
  have he : 0 + N = (Rd (F := F) m).expect (cell c R) r := by rw [expect_cell, hd, ha]; simp
  have hI := Recs_at m K c R
  unfold Owing At
  unfold cell at he hx hI ⊢
  rw [hq] at he hx hI ⊢
  iintro ⟨#HR, Hc, ⟨%W, HO⟩, HM, Hat, -⟩ Hk
  ihave Hi := hI $$ HR
  icases Hi with ⟨#HI, -⟩
  iapply (Rounds.wp_wait_rest_token 𝒱₀ ER (Rd m) (c : Thread nD τ) none (κ := K (c, R)) (k' := N)
      (fun K' => (wpE_waitDma2_eq 𝒱₀ (c : Thread nD τ) none Set.univ K').trans (by rw [hN])) (Set.mem_univ _) i (O := O) (W := W) (R := r) (m := 0) (T := ∅) he) $$ [Hc HO HM Hat]
  · isplitr; · iexact HI
    isplitl [Hc]; · iexact Hc
    isplitl [HO]; · iexact HO
    isplitl [HM]; · iexact HM
    iexact Hat
  iintro ⟨HO, Hat, Hr, Hpay⟩
  iapply Hk
  isplitl [HO]; · iexists _; iexact HO
  isplitl [Hat Hr]; · isplitl [Hat] <;> iassumption
  iapply (Entails.of_eq hx); iexact Hpay

/-- A wait for a whole round of a counting cell. -/
theorem wait_count {α : Type} {Q : α → sProp 𝕄} {k : PUnit → Prog (TpuEff nD τ sig (Elt F) Λ₀ .tc) α} (R : Role) (q : Sem sig) (hq : semOf R = .reg q) (r i n : ℕ) (hn : (dut R r).card * amt R = n) (O : CellTallies nD τ sig ℕ) :
    iprop(Recs m K ∗ cred (tallyAt (cell c R) i n) ∗ Owing c O ∗ MayWait (c : Thread nD τ) (semOf R) i (O) ∗ At c R r)
      ⊢ iprop(((Owing c O ∗ At c R (r + 1) ∗ bigSep ((Rd (F := F) m).duties (cell c R) r \ ∅) (fun d => (Rd (F := F) m).payload (cell c R) r d))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait q n) k) Q) := by
  have he : 0 + n = (Rd (F := F) m).expect (cell c R) r := by rw [expect_cell, hn, Nat.zero_add]
  have hI := Recs_at m K c R
  unfold Owing At
  unfold cell at he hI ⊢
  rw [hq] at he hI ⊢
  iintro ⟨#HR, Hc, ⟨%W, HO⟩, HM, Hat, -⟩ Hk
  ihave Hi := hI $$ HR
  icases Hi with ⟨#HI, -⟩
  iapply (Rounds.wp_wait_rest_token 𝒱₀ ER (Rd m) (c : Thread nD τ) none (κ := K (c, R)) (k' := n)
      (wpE_semWait_eq 𝒱₀ (c : Thread nD τ) none Set.univ) (Set.mem_univ _) i (O := O) (W := W) (R := r) (m := 0) (T := ∅) he) $$ [Hc HO HM Hat]
  · isplitr; · iexact HI
    isplitl [Hc]; · iexact Hc
    isplitl [HO]; · iexact HO
    isplitl [HM]; · iexact HM
    iexact Hat
  iintro ⟨HO, Hat, Hr, Hpay⟩
  iapply Hk
  isplitl [HO]; · iexists _; iexact HO
  isplitl [Hat Hr]; · isplitl [Hat] <;> iassumption
  iexact Hpay

/-- STEP 1: the band of hop `h` arrives. -/
theorem step_recv {α : Type} {Q : α → sProp 𝕄} {k : PUnit → Prog (TpuEff nD τ sig (Elt F) Λ₀ .tc) α} {h : ℕ} (hh : h < 7) (b e p d y : ℕ) (q : DmaSem sig) (hq : q = recvQ st (sl (h + 1)))
    {src dst : Memref sig .tc .vmem S256x8192 .bf16} {hsrc : src.view.WordExact} {hdst : dst.view.WordExact} (s : Fin 2) (hds : dst = slotM st s) :
    iprop(Recs m K ∗ levAts L lv ∗ Owes c (upto (h + 1) st.val) (upto h st.val) ∗ Pos c st h b e ∗ Tok c st p d h y)
      ⊢ iprop(((Owes c (upto (h + 1) st.val) (upto h st.val) ∗ Pos c st (h + 1) b e ∗ Tok c st p d (h + 1) y ∗ landed m c st h)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hq hds
  unfold Pos Tok
  rw [bigSep_Ico_succ_bot hh (fun j => cred (tallyAt (cell c (rv st j)) j N))]
  iintro ⟨#HR, #HL, HO, ⟨Ha, Ha1, Hpos⟩, Hp, Hd, ⟨Hc, Hw⟩, Hy⟩ Hk
  iapply (wait_cell m K c (rv st h) (recvQ st (sl (h + 1))) rfl (h / 2) h (dut_rv st hh) rfl _ (credit_eq st s)) $$ [HO Ha Hc]
  · isplitr; · iexact HR
    isplitl [Hc]; · iexact Hc
    isplitl [HO]; · iexact HO
    isplitr
    · iapply (mayWait_owe c (rv st h) h _ _ (by omega)
        (fun s j hj => by unfold upto at hj; unfold lvR; dsimp only; split at hj <;> omega)
        (fun s j hj => by unfold upto at hj; unfold lvR; dsimp only; split at hj <;> omega)); iexact HL
    iexact Ha
  iintro ⟨HO, Ha, Hpay⟩
  iapply Hk
  isplitl [HO]; · iexact HO
  isplitl [Ha Ha1 Hpos]
  · isplitl [Ha1]; · iexact Ha1
    isplitl [Ha]
    · rw [show h / 2 + 1 = (h + 1 + 1) / 2 by omega, show rv st h = rv st (h + 1 + 1) by unfold rv; rw [show h + 1 + 1 + 1 = h + 1 + 2 from rfl, sl_add_two]]
      iexact Ha
    iexact Hpos
  isplitl [Hp Hd Hw Hy]
  · isplitl [Hp]; · iexact Hp
    isplitl [Hd]; · iexact Hd
    isplitl [Hw] <;> iassumption
  iapply (Entails.of_eq (pay_rv m st h c)); iexact Hpay

/-- STEP 2: the band of hop `h` has left. -/
theorem step_sent {α : Type} {Q : α → sProp 𝕄} {k : PUnit → Prog (TpuEff nD τ sig (Elt F) Λ₀ .tc) α} {h : ℕ} (hh : h < 7) (a e : ℕ) (q : DmaSem sig) (hq : q = sendQ st (sl h)) (a' b' : Fin 4 → ℕ)
    {src dst : Memref sig .tc .vmem S256x8192 .bf16} {hsrc : src.view.WordExact} {hdst : dst.view.WordExact} (s : Fin 2) (hds : dst = slotM st s) :
    iprop(Recs m K ∗ levAts L lv ∗ Owes c a' b' ∗ Pos c st a h e ∗ Fly m c st h)
      ⊢ iprop(((Owes c a' b' ∗ Pos c st a (h + 1) e ∗ slotAny c st (sl h))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hq hds
  unfold Pos Fly
  rw [if_pos hh]
  iintro ⟨#HR, #HL, HO, ⟨Ha, Ha1, Hb, Hb1, He⟩, Hc, Hs⟩ Hk
  iapply (wait_cell m K c (sd st h) (sendQ st (sl h)) rfl (h / 2) h (dut_sd st hh) rfl _ (credit_eq st s)) $$ [HO Hb Hc]
  · isplitr; · iexact HR
    isplitl [Hc]; · iexact Hc
    isplitl [HO]; · iexact HO
    isplitr
    · iapply (mayWait_owe c (sd st h) h _ _ (by omega)
        (fun s j hj => by unfold lvR; dsimp only; omega)
        (fun s j hj => by unfold lvR; dsimp only; omega)); iexact HL
    iexact Hb
  iintro ⟨HO, Hb, Hpay⟩
  iapply Hk
  isplitl [HO]; · iexact HO
  isplitl [Ha Ha1 Hb Hb1 He]
  · isplitl [Ha]; · iexact Ha
    isplitl [Ha1]; · iexact Ha1
    isplitl [Hb1]; · iexact Hb1
    isplitl [Hb]
    · rw [show h / 2 + 1 = (h + 1 + 1) / 2 by omega, show sd st h = sd st (h + 1 + 1) by unfold sd; rw [show h + 1 + 1 = h + 2 from rfl, sl_add_two]]
      iexact Hb
    iexact He
  iapply (slotHas_join m c st (sl h) (org st h c))
  isplitl [Hs]; · iexact Hs
  iapply (Entails.of_eq (pay_sd m st h c)); iexact Hpay

/-- STEP 3: leave for hop `h + 1` is given to the device behind. -/
theorem step_give {α : Type} {Q : α → sProp 𝕄} {k : PUnit → Prog (TpuEff nD τ sig (Elt F) Λ₀ .tc) α} {h : ℕ} (hh : h < 6) (b e p w y : ℕ) (n : Dev nD) (hn : n = back st c) (q : Sem sig) (hq : q = credQ st) (a' : Fin 4 → ℕ) :
    iprop(Recs m K ∗ Owes c a' (upto h st.val) ∗ Pos c st (h + 1) b e ∗ Tok c st p h w y ∗ slotAny c st (sl h) ∗ reached ER (cell (back st c) (cr st)) h)
      ⊢ iprop(((Owes c a' (upto h (st.val + 1)) ∗ Pos c st (h + 1) b e ∗ Tok c st p (h + 1) w y)
            -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) q 1) k) Q) := by
  subst hq hn
  have hp : (Rd (F := F) m).payload ((back st c : Thread nD τ), .reg (credQ st)) h false = grant (back st c) st (h + 1) :=
    payload_cell m (back st c) (cr st) h false
  unfold Pos Tok Owes Owing At
  rw [bigSep_Ico_succ_bot hh (fun j => dutyTok ER (cell (back st c) (cr st)) j false)]
  iintro ⟨#HR, ⟨%W, HO⟩, ⟨⟨Ha, #Hr⟩, Hpos⟩, ⟨Hp, ⟨Ht, Hd⟩, Hw⟩, Hs, #Hrb⟩ Hk
  ihave Hi := (Recs_at m K (back st c) (cr st)) $$ HR
  icases Hi with ⟨#HI, -⟩
  iapply (Rounds.wp_signal 𝒱₀ ER (Rd m) (c : Thread nD τ) none (dst := (back st c : Thread nD τ)) (sem := credQ st) (κ := K (back st c, cr st)) (r := h) (d := false)
      (by show false ∈ (Rd (F := F) m).duties (cell (back st c) (cr st)) h; rw [duties_cell, dut_cr st hh]; exact Finset.mem_singleton_self _)
      (amount_cell m (back st c) (cr st) h false) h (Owe c a' (upto h (st.val + 1))) (Owe_cred c a' st hh)) $$ [HO Ht Hs]
  · isplitr; · iexact HI
    isplitl [HO]; · iexact HO
    isplitl [Ht]; · iexact Ht
    isplitl [Hs]
    · rw [hp]
      unfold grant
      rw [fwd_back, show h + 1 + 1 = h + 2 from rfl, sl_add_two]
      isplitl [Hs]; · iexact Hs
      iexact Hr
    iexact Hrb
  iintro HO
  iapply Hk
  isplitl [HO]; · iexists W; iexact HO
  isplitl [Ha Hpos]
  · isplitl [Ha]
    · isplitl [Ha]; · iexact Ha
      iexact Hr
    iexact Hpos
  isplitl [Hp]; · iexact Hp
  isplitl [Hd] <;> iassumption

/-- STEP 4: leave for hop `h + 1` is had from the device ahead. -/
theorem step_leave {α : Type} {Q : α → sProp 𝕄} {k : PUnit → Prog (TpuEff nD τ sig (Elt F) Λ₀ .tc) α} {h : ℕ} (hh : h < 6) (a b p d w : ℕ) (q : Sem sig) (hq : q = credQ st) :
    iprop(Recs m K ∗ levAts L lv ∗ Owes c (upto (h + 1) st.val) (upto h (st.val + 1)) ∗ Pos c st a b h ∗ Tok c st p d w h)
      ⊢ iprop(((Owes c (upto (h + 1) st.val) (upto h (st.val + 1)) ∗ Pos c st a b (h + 1) ∗ Tok c st p d w (h + 1) ∗ grant c st (h + 1))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait q 1) k) Q) := by
  subst hq
  unfold Pos Tok
  rw [bigSep_Ico_succ_bot hh (fun j => cred (tallyAt (cell c (cr st)) j 1))]
  iintro ⟨#HR, #HL, HO, ⟨Ha, Ha1, Hb, Hb1, He⟩, Hp, Hd, Hw, Hc, Hy⟩ Hk
  iapply (wait_count m K c (cr st) (credQ st) rfl h h 1 (by rw [dut_cr st hh]; rfl) _) $$ [HO He Hc]
  · isplitr; · iexact HR
    isplitl [Hc]; · iexact Hc
    isplitl [HO]; · iexact HO
    isplitr
    · iapply (mayWait_owe c (cr st) h _ _ (by omega)
        (fun s j hj => by unfold upto at hj; unfold lvR; dsimp only; split at hj <;> omega)
        (fun s j hj => by unfold upto at hj; unfold lvR; dsimp only; split at hj <;> omega)); iexact HL
    iexact He
  iintro ⟨HO, He, Hpay⟩
  iapply Hk
  isplitl [HO]; · iexact HO
  isplitl [Ha Ha1 Hb Hb1 He]
  · isplitl [Ha]; · iexact Ha
    isplitl [Ha1]; · iexact Ha1
    isplitl [Hb]; · iexact Hb
    isplitl [Hb1] <;> iassumption
  isplitl [Hp Hd Hw Hy]
  · isplitl [Hp]; · iexact Hp
    isplitl [Hd]; · iexact Hd
    isplitl [Hw] <;> iassumption
  ihave Hg := (Entails.of_eq ((rest_single m c (cr st) h (dut_cr st hh)).trans (show _ = grant c st (h + 1) from rfl))) $$ Hpay
  iexact Hg

/-- STEP 5: the band held is sent on as hop `h`. -/
theorem step_send {α : Type} {Q : α → sProp 𝕄} {k : PUnit → Prog (TpuEff nD τ sig (Elt F) Λ₀ .tc) α} {h : ℕ} (hh : h < 7) (a d w y : ℕ) (b' : Fin 4 → ℕ) (n : Dev nD) (hn : n = fwd st c)
    (qs qr : DmaSem sig) (hqs : qs = sendQ st (sl h)) (hqr : qr = recvQ st (sl (h + 1)))
    {src dst : Memref sig .tc .vmem S256x8192 .bf16} (hsr : src = slotM st (sl h)) (hds : dst = slotM st (sl (h + 1)))
    {hsc : (dst : Memref sig (Dev.tc n : Thread nD τ).2.kind .vmem S256x8192 .bf16).view.ref.isScScratch = false}
    {hsrc : src.view.WordExact} {hdst : dst.view.WordExact}
    {hsem : DmaTarget.Typed .vmem (.dma qr) (.remote (Dev.tc n : Thread nD τ) (dst : Memref sig .tc .vmem S256x8192 .bf16) (.dma qs) hsc)} :
    iprop(Recs m K ∗ Owes c (upto h st.val) b' ∗ Pos c st a h h ∗ Tok c st h d w y ∗ slotHas m c st (sl h) (org st h c) fullShare ∗ grant c st h)
      ⊢ iprop(((Owes c (upto h (st.val + 1)) b' ∗ Pos c st a h h ∗ Tok c st (h + 1) d w y ∗ Fly m c st h)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma qs) hsc) (.dma qr) hsrc hdst hsem) k) Q) := by
  subst hqs hqr hn hsr hds
  unfold Pos Tok Owes Owing Fly At grant
  rw [bigSep_Ico_succ_bot hh (fun j => hopTok c st j), if_pos hh]
  unfold hopTok
  iintro ⟨#HR, ⟨%W, HO⟩, ⟨Ha, Ha1, ⟨Hb, #Hrb⟩, Hb1, He, #Hre⟩, ⟨⟨⟨Htr, Hts⟩, Hp⟩, Htok⟩, Hs, Hg, #Hrg⟩ Hk
  ihave Hi := (Recs_at m K (fwd st c) (rv st h)) $$ HR
  icases Hi with ⟨#HIr, -⟩
  ihave Hi := (Recs_at m K c (sd st h)) $$ HR
  icases Hi with ⟨#HIs, -⟩
  ihave Hs2 := (slotHas_halves m c st (sl h) (org st h c)) $$ Hs
  icases Hs2 with ⟨HsL, HsR⟩
  unfold slotAny
  icases Hg with ⟨%fd, Hg⟩
  unfold slotHas
  icases HsR with ⟨%fs, %hfs, HsR⟩
  iapply (Rounds.wp_send_pointsTo_with 𝒱₀ ER (Rd m) (c : Thread nD τ) none (κ₁ := K (c, sd st h)) (κ₂ := K (fwd st c, rv st h))
      (c' := (fwd st c : Thread nD τ)) (sS := .dma (sendQ st (sl h))) (sem := .dma (recvQ st (sl (h + 1))))
      (src := slotM st (sl h)) (dst := slotM st (sl (h + 1)))
      (r₁ := h / 2) (r₂ := h / 2) (d₁ := false) (d₂ := false) (fs := fs) (fd := fd) (q := fullShare.right)
      (F := reached ER (cell c (cr st)) h)
      (by show false ∈ (Rd (F := F) m).duties (cell c (sd st h)) (h / 2); rw [duties_cell, dut_sd st hh]; exact Finset.mem_singleton_self _)
      (by show false ∈ (Rd (F := F) m).duties (cell (fwd st c) (rv st h)) (h / 2); rw [duties_cell, dut_rv st hh]; exact Finset.mem_singleton_self _)
      h h N (credit_eq st (sl (h + 1))) (amount_cell m c (sd st h) (h / 2) false) (amount_cell m (fwd st c) (rv st h) (h / 2) false)
      (Owe c (upto h (st.val + 1)) b') (Owe_send c b' st hh) (W := W)
      (by
        show _ ⊢ (Rd (F := F) m).payload (cell c (sd st h)) (h / 2) false
        rw [payload_cell, pay_sd]; unfold slotHas
        iintro H; iexists fs; isplitr; · (ipureintro; exact hfs)
        iexact H)
      (by
        show _ ⊢ (Rd (F := F) m).payload (cell (fwd st c) (rv st h)) (h / 2) false
        rw [payload_cell, pay_rv]; unfold landed slotHas
        rw [org_fwd, back_fwd]
        iintro ⟨H, Hr⟩
        isplitl [H]
        · iexists ((slotM st (sl (h + 1))).view.write (Elt F) fd ((slotM st (sl h)).view.read (Elt F) fs) Finset.univ); isplitr
          · ipureintro; exact (View.read_write_univ _ _).trans hfs
          iexact H
        iexact Hr)) $$ [HsR Hg HO Htr Hts]
  · isplitr; · iexact HIs
    isplitr; · iexact HIr
    isplitl [HsR]; · iexact HsR
    isplitl [Hg]
    · isplitl [Hg]; · iexact Hg
      iexact Hre
    isplitl [HO]; · iexact HO
    isplitl [Hts]; · iexact Hts
    isplitr; · iexact Hrb
    isplitl [Htr]; · iexact Htr
    iexact Hrg
  iintro ⟨Hc, HO⟩
  iapply Hk
  isplitl [HO]; · iexists W; iexact HO
  isplitl [Ha Ha1 Hb Hb1 He]
  · isplitl [Ha]; · iexact Ha
    isplitl [Ha1]; · iexact Ha1
    isplitl [Hb]
    · isplitl [Hb]; · iexact Hb
      iexact Hrb
    isplitl [Hb1]; · iexact Hb1
    isplitl [He]; · iexact He
    iexact Hre
  isplitl [Hp Htok]; · isplitl [Hp] <;> iassumption
  isplitl [Hc]; · iexact Hc
  iexact HsL

end Steps

end Cert.Rings

end
-- ==== Proof.Local.lean ====
/-
# The start of a device, and its products

The steps of a device that are not a hop of a stream: the four copies out of `x`, the exchange of leave through the
barrier, and the product of a band with the device's columns of `w`, stored in the rows of the result the band belongs to.
-/
module

public import proofs.«01_k».proof.Proof.Steps

@[expose] public section

noncomputable section

namespace Cert.Rings

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (sum_pos_exists add_pos_cases mayWait_of_levAts tallyAt_pos)

variable {F : FTy → Type} [FloatOps F]

local notation "𝕄" => MT nD τ sig ℕ (Elt F) ℕ UU ℕ

variable (m : (ℓ : Loc nD τ sig) → Buf (Elt F) ℓ) (ρ : Dev nD → PrngReg) (K : Dev nD × Role → ℕ)

/-! ## The first copies -/

/-- A quarter of the share at which a device reads its `x`. -/
def quarter : Fin 4 → PosShare TreeShare
  | 0 => fullShare.right.left.left | 1 => fullShare.right.left.right | 2 => fullShare.right.right.left | 3 => fullShare.right.right.right

/-- A device's rows of `x` the copy of a stream reads, at the share it reads them. -/
def srcHas (c : Dev nD) (st : Fin 4) : sProp 𝕄 :=
  (xband st).view.loc (c : Thread nD τ) ↦[(xband st).view.set]{quarter st} (m ((c : Thread nD τ).loc main_arg0))

section Start
variable (c : Dev nD) (st : Fin 4)

/-- A band of `x` copied into slot 0 of its stream. -/
theorem step_copy {α : Type} {Q : α → sProp 𝕄} {k : PUnit → Prog (TpuEff nD τ sig (Elt F) Λ₀ .tc) α}
    (q : DmaSem sig) (hq : q = copyQ st) {src : Memref sig .tc .hbm S256x8192 .bf16} {dst : Memref sig .tc .vmem S256x8192 .bf16} (hsr : src = xband st) (hds : dst = slotM st 0)
    {hsrc : src.view.WordExact} {hdst : dst.view.WordExact} {hsem : DmaTarget.Typed (nD := nD) (τ := τ) .hbm (.dma q) (.here (p := (Proc.tc : Proc τ)) dst)} :
    iprop(Recs m K ∗ srcHas m c st ∗ slotAny c st 0 ∗ dutyTok ER (cell c (cp st)) 0 false)
      ⊢ iprop((cred (tallyAt (cell c (cp st)) 0 N) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.here dst) (.dma q) hsrc hdst hsem) k) Q) := by
  subst hq hsr hds
  unfold srcHas slotAny
  iintro ⟨#HR, Hsrc, ⟨%fd, Hd⟩, Ht⟩ Hk
  ihave Hi := (Recs_at m K c (cp st)) $$ HR
  icases Hi with ⟨#HI, #Hr⟩
  iapply (Rounds.wp_copy_pointsTo 𝒱₀ ER (Rd m) (c : Thread nD τ) none (κ := K (c, cp st)) (sem := .dma (copyQ st)) (src := xband st) (dst := slotM st 0)
      (r := 0) (d := false) (q := quarter st) (fs := m ((c : Thread nD τ).loc main_arg0)) (fd := fd)
      (by show false ∈ (Rd (F := F) m).duties (cell c (cp st)) 0; rw [duties_cell, dut_cp]; exact Finset.mem_singleton_self _)
      0 N (credit_eq st 0) (amount_cell m c (cp st) 0 false)
      (by
        show _ ⊢ (Rd (F := F) m).payload (cell c (cp st)) 0 false
        rw [payload_cell]
        unfold pay slotHas
        iintro ⟨H, -⟩
        iexists ((slotM st 0).view.write (Elt F) fd ((xband st).view.read (Elt F) (m ((c : Thread nD τ).loc main_arg0))) Finset.univ)
        isplitr
        · ipureintro; exact View.read_write_univ _ _
        iexact H)) $$ [Hsrc Hd Ht]
  · isplitr; · iexact HI
    isplitl [Hsrc]; · iexact Hsrc
    isplitl [Hd]; · iexact Hd
    isplitl [Ht]; · iexact Ht
    iexact Hr
  iexact Hk

/-- The copy has landed. -/
theorem step_copied {α : Type} {Q : α → sProp 𝕄} {k : PUnit → Prog (TpuEff nD τ sig (Elt F) Λ₀ .tc) α}
    (q : DmaSem sig) (hq : q = copyQ st) {src : Memref sig .tc .hbm S256x8192 .bf16} {dst : Memref sig .tc .vmem S256x8192 .bf16} (hds : dst = slotM st 0)
    {hsrc : src.view.WordExact} {hdst : dst.view.WordExact} :
    iprop(Recs m K ∗ levAts L lv ∗ Owing c (O₀ c) ∗ At c (cp st) 0 ∗ cred (tallyAt (cell c (cp st)) 0 N))
      ⊢ iprop(((Owing c (O₀ c) ∗ At c (cp st) 1 ∗ slotHas m c st 0 c fullShare) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hq hds
  iintro ⟨#HR, #HL, HO, Ha, Hc⟩ Hk
  iapply (wait_cell m K c (cp st) (copyQ st) rfl 0 0 (dut_cp st) rfl _ (credit_eq st 0)) $$ [HO Ha Hc]
  · isplitr; · iexact HR
    isplitl [Hc]; · iexact Hc
    isplitl [HO]; · iexact HO
    isplitr
    · iapply (mayWait_start c (semOf (cp st)) ((lv_cell c (cp st) 0).trans rfl)); iexact HL
    iexact Ha
  iintro ⟨HO, Ha, Hp⟩
  iapply Hk
  isplitl [HO]; · iexact HO
  isplitl [Ha]; · iexact Ha
  iapply (Entails.of_eq (show pay m (cp st) c 0 false = slotHas m c st 0 c fullShare from rfl)); iexact Hp

end Start

/-! ## The barrier -/

section Barrier
variable (c : Dev nD)

/-- One of the two signals: leave for hop 0 of two streams goes to a neighbour `n`. -/
theorem step_enter {α : Type} {Q : α → sProp 𝕄} {k : PUnit → Prog (TpuEff nD τ sig (Elt F) Λ₀ .tc) α}
    (n n' : Dev nD) (hn : n' = n) (q : Sem sig) (hq : semOf bar = .reg q) (d : Bool) (s s' : Fin 4) (hs : fwd s n = c) (hs' : fwd s' n = c)
    (hp : pay m bar n 0 d = iprop(grant n s 0 ∗ grant n s' 0)) (O : CellTallies nD τ sig ℕ) :
    iprop(Recs m K ∗ Owing c (O + tallyAt (cell n bar) 0 1) ∗ slotAny c s 1 ∗ slotAny c s' 1 ∗ dutyTok ER (cell n bar) 0 d)
      ⊢ iprop((Owing c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n' : Thread nD τ) q 1) k) Q) := by
  subst hn
  have hpay := (payload_cell m n' bar 0 d).trans hp
  have hI := Recs_at m K n' bar
  have hd : d ∈ (Rd (F := F) m).duties (cell n' bar) 0 := by rw [duties_cell]; exact Finset.mem_univ _
  have hk := amount_cell (F := F) m n' bar 0 d
  unfold Owing
  unfold cell at hpay hI hd hk ⊢
  rw [hq] at hpay hI hd hk ⊢
  iintro ⟨#HR, ⟨%W, HO⟩, Hs, Hs', Ht⟩ Hk
  ihave Hi := hI $$ HR
  icases Hi with ⟨#HI, #Hr⟩
  ihave Hi := (Recs_at m K c (rv s 0)) $$ HR
  icases Hi with ⟨-, #Hrs⟩
  ihave Hi := (Recs_at m K c (rv s' 0)) $$ HR
  icases Hi with ⟨-, #Hrs'⟩
  iapply (Rounds.wp_signal 𝒱₀ ER (Rd m) (c : Thread nD τ) none (dst := (n' : Thread nD τ)) (sem := q) (κ := K (n', bar)) (r := 0) (d := d) hd hk 0 O rfl) $$ [HO Ht Hs Hs']
  · isplitr; · iexact HI
    isplitl [HO]; · iexact HO
    isplitl [Ht]; · iexact Ht
    isplitl [Hs Hs']
    · rw [hpay]
      unfold grant
      rw [hs, hs']
      isplitl [Hs]
      · isplitl [Hs]; · iexact Hs
        iexact Hrs
      · isplitl [Hs']; · iexact Hs'
        iexact Hrs'
    iexact Hr
  iintro HO
  iapply Hk
  iexists W; iexact HO

/-- The wait for both: leave for hop 0 of all four streams. -/
theorem step_entered {α : Type} {Q : α → sProp 𝕄} {k : PUnit → Prog (TpuEff nD τ sig (Elt F) Λ₀ .tc) α}
    (q : Sem sig) (hq : semOf bar = .reg q) :
    iprop(Recs m K ∗ levAts L lv ∗ cred (tallyAt (cell c bar) 0 2) ∗ Owes c (fun _ => 0) (fun _ => 0) ∗ At c bar 0)
      ⊢ iprop(((Owes c (fun _ => 0) (fun _ => 0) ∗ At c bar 1 ∗ (grant c 1 0 ∗ grant c 3 0) ∗ grant c 0 0 ∗ grant c 2 0)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait q 2) k) Q) := by
  iintro ⟨#HR, #HL, Hc, HO, Ha⟩ Hk
  iapply (wait_count m K c bar q hq 0 0 2 rfl _) $$ [HO Ha Hc]
  · isplitr; · iexact HR
    isplitl [Hc]; · iexact Hc
    isplitl [HO]; · iexact HO
    isplitr
    · iapply (mayWait_owe c bar 0 _ _ (by omega)
        (fun s j hj => by unfold lvR; dsimp only; omega)
        (fun s j hj => by unfold lvR; dsimp only; omega)); iexact HL
    iexact Ha
  iintro ⟨HO, Ha, Hp⟩
  iapply Hk
  isplitl [HO]; · iexact HO
  isplitl [Ha]; · iexact Ha
  iapply (Entails.of_eq (rest_bar m c)); iexact Hp

end Barrier

/-! ## The products -/

/-- A device's columns of `w`, as staged. -/
def wstg (c : Dev nD) : (cc0_stg0_0 : Ref sig .tc).ty.Contents (Elt F) :=
  (win0_0.blk (0 : Fin 1)).view.read (Elt F) (m ((c : Thread nD τ).loc main_arg1))

abbrev wM : Memref sig .tc .vmem S8192x512 .bf16 := Memref.whole cc0_stg0_0
abbrev oM : Memref sig .tc .vmem S8192x512 .f32 := Memref.whole cc0_stg1_0

theorem out_inb (o : Dev nD) (st : Fin 4) : ∀ a, (![1024 * o.val + row0 st, 0] : Fin 2 → Nat) a + S256x512.size a ≤ S8192x512.size a := by
  revert o st; decide

/-- The rows of the result device `o`'s band of stream `st` belongs to. -/
abbrev outR (o : Dev nD) (st : Fin 4) : Rect S8192x512 := Rect.unit (s := S8192x512) ![1024 * o.val + row0 st, 0] S256x512.size (out_inb o st)

theorem w_inb : ∀ a, (![0, 0] : Fin 2 → Nat) a + S8192x512.size a ≤ S8192x512.size a := by decide

/-- The whole of the columns of `w`. -/
abbrev wR : Rect S8192x512 := Rect.unit (s := S8192x512) ![0, 0] S8192x512.size w_inb

/-- A band times the columns of `w`. -/
def dotv (x : Vec F S256x8192 .bf16) (w : Vec F S8192x512 .bf16) : FVec F S256x512 .f32 :=
  matmul dot_S256x8192_S8192x512_S256x512_1_0_0_1_n_n none x (shapeCast S8192x512 w shapeCasts_S8192x512_S8192x512) (constant S256x512 .f32 0x00000000#32)

/-- What device `c` stores for device `o`'s band of stream `st`. -/
def prod (c o : Dev nD) (st : Fin 4) : FVec F S256x512 .f32 := dotv (chunk m st o) (wM.view.readAt (Elt F) wR.toLoadRect (wstg m c))

def wHas (c : Dev nD) : sProp 𝕄 := ((c : Thread nD τ).loc cc0_stg0_0) ↦{fullShare} (wstg m c)

/-- The result holds the products of the bands that have been `a st` hops round or less. -/
def outHas (c : Dev nD) (a : Fin 4 → ℕ) : sProp 𝕄 :=
  iprop(∃ f : Buf (Elt F) ((c : Thread nD τ).loc cc0_stg1_0),
    ⌜∀ (st : Fin 4) (h : ℕ), h < a st → (oM.access (outR (org st h c) st)).read (Elt F) f = prod m c (org st h c) st⌝
      ∗ (((c : Thread nD τ).loc cc0_stg1_0) ↦{fullShare} f))

theorem row0_lt (st : Fin 4) : row0 st + 256 ≤ 1024 := by revert st; decide
theorem row0_ne (st st' : Fin 4) (h : st ≠ st') : row0 st + 256 ≤ row0 st' ∨ row0 st' + 256 ≤ row0 st := by revert st st'; decide

/-- Different bands have different rows. -/
theorem outR_disjoint (o o' : Dev nD) (st st' : Fin 4) (h : ¬(o = o' ∧ st = st')) (x x' : S256x512.Idx) : (outR o st).emb x ≠ (outR o' st').emb x' := by
  intro e
  have e0 := congrArg (fun y => (y 0).val) e
  have h1 : ((outR o st).emb x 0).val = (1024 * o.val + row0 st) + 1 * (x 0).val := rfl
  have h2 : ((outR o' st').emb x' 0).val = (1024 * o'.val + row0 st') + 1 * (x' 0).val := rfl
  have hx : (x 0).val < 256 := (x 0).isLt
  have hx' : (x' 0).val < 256 := (x' 0).isLt
  have := row0_lt st; have := row0_lt st'
  dsimp only at e0; rw [h1, h2] at e0
  refine h ?_
  by_cases hs : st = st'
  · subst hs; exact ⟨Fin.ext (by omega), rfl⟩
  · have := row0_ne st st' hs; exfalso; omega

theorem out_disjoint {o o' : Dev nD} {st st' : Fin 4} (h : ¬(o = o' ∧ st = st')) :
    Disjoint (oM.view.slice (outR o st)).set ((oM.view.slice (outR o' st')).setOn Finset.univ) := by
  rw [Finset.disjoint_left]
  intro i hi hi'
  obtain ⟨x, -, hx⟩ := Finset.mem_map.mp hi
  obtain ⟨x', -, hx'⟩ := Finset.mem_map.mp hi'
  exact outR_disjoint o o' st st' h x x' (hx.trans hx'.symm)

/-- One more product: a band held at any share, loaded, multiplied and stored. -/
theorem step_dot {α : Type} {Q : α → sProp 𝕄} (c : Dev nD) (st : Fin 4) (h : ℕ) (s : Fin 2) (q : PosShare TreeShare)
    {B : Memref sig .tc .vmem S2x256x8192 .bf16} (hB : B = bufM st) {off : Fin 3 → ℕ} (hoff : off = ![s.val, 0, 0]) {inb : ∀ a, off a + S1x256x8192.size a ≤ S2x256x8192.size a}
    {offo : Fin 2 → ℕ} (hoffo : offo = ![1024 * (org st h c).val + row0 st, 0]) {inbo : ∀ a, offo a + S256x512.size a ≤ S8192x512.size a}
    {inbw : ∀ a, (![0, 0] : Fin 2 → ℕ) a + S8192x512.size a ≤ S8192x512.size a}
    {hl : B.view.LoadsAt (Rect.unit (s := S2x256x8192) off S1x256x8192.size inb).toLoadRect}
    {hl2 : wM.view.LoadsAt (Rect.unit (s := S8192x512) ![0, 0] S8192x512.size inbw).toLoadRect}
    {hl3 : oM.view.LoadsAt (Rect.unit (s := S8192x512) offo S256x512.size inbo).toLoadRect}
    {hx : (oM.access (Rect.unit (s := S8192x512) offo S256x512.size inbo)).Stores Finset.univ}
    {hm : Finset.univ = Finset.univ ∨ ∀ a, (Rect.unit (s := S8192x512) offo S256x512.size inbo).stride a = 1}
    (P : Vec F S1x256x8192 .bf16 → Vec F S8192x512 .bf16 → FVec F S256x512 .f32)
    (hP : ∀ v w, P v w = dotv (shapeCast S256x8192 v shapeCasts_S1x256x8192_S256x8192) w)
    {k : PUnit → Prog (TpuEff nD τ sig (Elt F) Λ₀ .tc) α} :
    iprop(slotHas m c st s (org st h c) q ∗ wHas m c ∗ outHas m c (upto h st.val))
      ⊢ iprop(((slotHas m c st s (org st h c) q ∗ wHas m c ∗ outHas m c (upto h (st.val + 1))) -∗ wp frame (wpE (defs₀ (F := F)) 𝒱₀ (c : Thread nD τ) none) Set.univ (k ⟨⟩) Q)
          -∗ wp frame (wpE (defs₀ (F := F)) 𝒱₀ (c : Thread nD τ) none) Set.univ
              (.op (.load B (Rect.unit (s := S2x256x8192) off S1x256x8192.size inb).toLoadRect hl) fun v =>
                .op (.load wM (Rect.unit (s := S8192x512) ![0, 0] S8192x512.size inbw).toLoadRect hl2) fun w =>
                .op (.load oM (Rect.unit (s := S8192x512) offo S256x512.size inbo).toLoadRect hl3) fun _ =>
                .op (.store oM (Rect.unit (s := S8192x512) offo S256x512.size inbo) (P v w) Finset.univ hx hm) k) Q) := by
  subst hB hoff hoffo
  unfold slotHas wHas outHas
  iintro ⟨⟨%fs, %hfs, Hs⟩, Hw, ⟨%f, %hf, Ho⟩⟩ Hk
  iapply (wp_load_rect 𝒱₀ (c : Thread nD τ) none Set.univ (m := bufM st) (r := slotR s) (S := (slotM st s).view.set) (f := fs)
    (by unfold slotM; rw [Memref.set_view_squeeze])) $$ Hs
  iintro Hs
  iapply (wp_load 𝒱₀ (c : Thread nD τ) none Set.univ (m := wM) (Finset.subset_univ _)) $$ Hw
  iintro Hw
  iapply (wp_load 𝒱₀ (c : Thread nD τ) none Set.univ (m := oM) (Finset.subset_univ _)) $$ Ho
  iintro Ho
  iapply (wp_store 𝒱₀ (c : Thread nD τ) none Set.univ (m := oM) (r := outR (org st h c) st) (Mk := Finset.univ) (Finset.subset_univ _)) $$ Ho
  iintro Ho
  iapply Hk
  isplitl [Hs]
  · iexists fs; isplitr; · (ipureintro; exact hfs)
    iexact Hs
  isplitl [Hw]; · iexact Hw
  iexists _
  isplitr
  rotate_left
  · iexact Ho
  ipureintro
  intro st' h' hlt
  by_cases he : org st' h' c = org st h c ∧ st' = st
  · obtain ⟨ho, rfl⟩ := he
    rw [ho, View.read_write_univ, hP]
    exact congrArg (fun x => dotv x (wM.view.readAt (Elt F) wR.toLoadRect (wstg m c))) hfs
  · refine (View.read_slice_write_slice_of_disjoint _ _ _ _ _ (out_disjoint he)).trans (hf st' h' ?_)
    by_cases hst : st' = st
    · subst hst
      rw [upto_succ_self] at hlt
      rw [upto_self]
      have : h' ≠ h := fun e => he ⟨by rw [e], rfl⟩
      omega
    · rwa [upto_succ_ne _ hst] at hlt

end Cert.Rings

end
-- ==== Proof.Trip.lean ====
/-
# One trip of the loop

What a device does for one stream in a trip, as one step: the band that arrives, the band that has left, leave given
back, leave awaited, and the band sent on. The last trip has only the first two.
-/
module

public import proofs.«01_k».proof.Proof.Local

@[expose] public section

noncomputable section

namespace Cert.Rings

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (sum_pos_exists add_pos_cases mayWait_of_levAts tallyAt_pos)

variable {F : FTy → Type} [FloatOps F]

local notation "𝕄" => MT nD τ sig ℕ (Elt F) ℕ UU ℕ

variable (m : (ℓ : Loc nD τ sig) → Buf (Elt F) ℓ) (ρ : Dev nD → PrngReg) (K : Dev nD × Role → ℕ)

/-- A device in a stream before trip `k`. -/
def Strm (c : Dev nD) (st : Fin 4) (k : ℕ) : sProp 𝕄 := iprop(Pos c st k k (min k 6) ∗ Tok c st (k + 1) k k k ∗ Fly m c st k)

variable (c : Dev nD) (st : Fin 4)

/-- A stream's part of a trip that is not the last. -/
theorem step_hop {α : Type} {Q : α → sProp 𝕄} {k : PUnit → Prog (TpuEff nD τ sig (Elt F) Λ₀ .tc) α} {h : ℕ} (hh : h < 6) {i j : ℕ} (hi : i = st.val) (hj : j = st.val + 1)
    {q₁ q₂ q₅ q₆ : DmaSem sig} {q₃ q₄ : Sem sig} {n n' : Dev nD} {src₁ dst₁ src₂ dst₂ src dst : Memref sig .tc .vmem S256x8192 .bf16}
    (h₁ : q₁ = recvQ st (sl (h + 1))) (d₁ : dst₁ = slotM st (sl (h + 1))) (h₂ : q₂ = sendQ st (sl h)) (d₂ : dst₂ = slotM st (sl h))
    (hn : n = back st c) (h₃ : q₃ = credQ st) (h₄ : q₄ = credQ st) (hn' : n' = fwd st c)
    (h₅ : q₅ = sendQ st (sl (h + 1))) (h₆ : q₆ = recvQ st (sl (h + 1 + 1))) (hsr : src = slotM st (sl (h + 1))) (hds : dst = slotM st (sl (h + 1 + 1)))
    {hsc : (dst : Memref sig (Dev.tc n' : Thread nD τ).2.kind .vmem S256x8192 .bf16).view.ref.isScScratch = false}
    {w₁ : src₁.view.WordExact} {w₂ : dst₁.view.WordExact} {w₃ : src₂.view.WordExact} {w₄ : dst₂.view.WordExact} {hsrc : src.view.WordExact} {hdst : dst.view.WordExact}
    {hsem : DmaTarget.Typed .vmem (.dma q₆) (.remote (Dev.tc n' : Thread nD τ) (dst : Memref sig .tc .vmem S256x8192 .bf16) (.dma q₅) hsc)} :
    iprop(Recs m K ∗ levAts L lv ∗ Owes c (upto (h + 1) i) (upto h i) ∗ Strm m c st h)
      ⊢ iprop(((Owes c (upto (h + 1) j) (upto h j) ∗ Strm m c st (h + 1))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 q₁ src₁ dst₁ w₁ w₂) fun _ => .op (.waitDma2 q₂ src₂ dst₂ w₃ w₄) fun _ =>
                .op (.semSignal (n : Thread nD τ) q₃ 1) fun _ => .op (.semWait q₄ 1) fun _ =>
                .op (.enqueueDma src (.remote (Dev.tc n' : Thread nD τ) dst (.dma q₅) hsc) (.dma q₆) hsrc hdst hsem) k) Q) := by
  subst hi hj
  unfold Strm
  rw [Nat.min_eq_left (by omega), Nat.min_eq_left (by omega)]
  iintro ⟨#HR, #HL, HO, HP, HT, HF⟩ Hk
  iapply (step_recv m K c st (show h < 7 by omega) h h (h + 1) h h q₁ h₁ _ d₁) $$ [HO HP HT]
  · isplitr; · iexact HR
    isplitr; · iexact HL
    isplitl [HO]; · iexact HO
    isplitl [HP] <;> iassumption
  unfold landed
  iintro ⟨HO, HP, HT, Hs, #Hr⟩
  iapply (step_sent m K c st (show h < 7 by omega) (h + 1) h q₂ h₂ _ _ _ d₂) $$ [HO HP HF]
  · isplitr; · iexact HR
    isplitr; · iexact HL
    isplitl [HO]; · iexact HO
    isplitl [HP] <;> iassumption
  iintro ⟨HO, HP, Ha⟩
  iapply (step_give m K c st hh (h + 1) h (h + 1) (h + 1) h n hn q₃ h₃ _) $$ [HO HP HT Ha]
  · isplitr; · iexact HR
    isplitl [HO]; · iexact HO
    isplitl [HP]; · iexact HP
    isplitl [HT]; · iexact HT
    isplitl [Ha]; · iexact Ha
    iexact Hr
  iintro ⟨HO, HP, HT⟩
  iapply (step_leave m K c st hh (h + 1) (h + 1) (h + 1) (h + 1) (h + 1) q₄ h₄) $$ [HO HP HT]
  · isplitr; · iexact HR
    isplitr; · iexact HL
    isplitl [HO]; · iexact HO
    isplitl [HP] <;> iassumption
  iintro ⟨HO, HP, HT, Hg⟩
  iapply (step_send m K c st (show h + 1 < 7 by omega) (h + 1) (h + 1) (h + 1) (h + 1) _ n' hn' q₅ q₆ h₅ h₆ hsr hds) $$ [HO HP HT Hs Hg]
  · isplitr; · iexact HR
    isplitl [HO]; · iexact HO
    isplitl [HP]; · iexact HP
    isplitl [HT]; · iexact HT
    isplitl [Hs] <;> iassumption
  iexact Hk

/-- Past the last hop and the last credit nothing is owed. -/
theorem Owe_over {a b : Fin 4 → ℕ} (ha : ∀ s, 7 ≤ a s) (hb : ∀ s, 6 ≤ b s) : Owe c a b = Owe c (fun _ => 7) (fun _ => 6) :=
  (Owe_done c ha hb).trans (Owe_done c (fun _ => le_refl 7) (fun _ => le_refl 6)).symm

theorem le_upto (h s : ℕ) (st : Fin 4) : h ≤ upto h s st := by unfold upto; split <;> omega

omit [FloatOps F] in
theorem Tok_over : (Tok c st (6 + 1) 6 (6 + 1) 6 : sProp 𝕄) = Tok c st (7 + 1) 7 7 7 := by
  unfold Tok
  rw [show Finset.Ico (6 + 1) 7 = Finset.Ico (7 + 1) 7 by decide, show Finset.Ico 6 6 = Finset.Ico 7 6 by decide,
    show Finset.Ico (7 + 1) 7 = Finset.Ico 7 7 by decide]

/-- A stream's part of the last trip. -/
theorem step_end {α : Type} {Q : α → sProp 𝕄} {k : PUnit → Prog (TpuEff nD τ sig (Elt F) Λ₀ .tc) α}
    {q₁ q₂ : DmaSem sig} {src₁ dst₁ src₂ dst₂ : Memref sig .tc .vmem S256x8192 .bf16}
    (h₁ : q₁ = recvQ st (sl (6 + 1))) (d₁ : dst₁ = slotM st (sl (6 + 1))) (h₂ : q₂ = sendQ st (sl 6)) (d₂ : dst₂ = slotM st (sl 6))
    {w₁ : src₁.view.WordExact} {w₂ : dst₁.view.WordExact} {w₃ : src₂.view.WordExact} {w₄ : dst₂.view.WordExact} :
    iprop(Recs m K ∗ levAts L lv ∗ Owes c (fun _ => 7) (fun _ => 6) ∗ Strm m c st 6)
      ⊢ iprop(((Owes c (fun _ => 7) (fun _ => 6) ∗ Strm m c st 7)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 q₁ src₁ dst₁ w₁ w₂) fun _ => .op (.waitDma2 q₂ src₂ dst₂ w₃ w₄) k) Q) := by
  unfold Strm
  iintro ⟨#HR, #HL, HO, HP, HT, HF⟩ Hk
  iapply (step_recv m K c st (show 6 < 7 by omega) 6 6 (6 + 1) 6 6 q₁ h₁ _ d₁) $$ [HO HP HT]
  · isplitr; · iexact HR
    isplitr; · iexact HL
    isplitl [HO]; · iapply (Entails.of_eq (congrArg (Owing (F := F) c) (Owe_over c (le_upto 7 st.val) (le_upto 6 st.val)).symm)); iexact HO
    isplitl [HP]; · iexact HP
    iexact HT
  unfold landed
  iintro ⟨HO, HP, HT, Hs, -⟩
  iapply (step_sent m K c st (show 6 < 7 by omega) (6 + 1) 6 q₂ h₂ _ _ _ d₂) $$ [HO HP HF]
  · isplitr; · iexact HR
    isplitr; · iexact HL
    isplitl [HO]; · iexact HO
    isplitl [HP] <;> iassumption
  iintro ⟨HO, HP, Ha⟩
  iapply Hk
  isplitl [HO]; · iapply (Entails.of_eq (congrArg (Owing (F := F) c) (Owe_over c (le_upto 7 st.val) (le_upto 6 st.val)))); iexact HO
  isplitl [HP]; · iexact HP
  isplitl [HT]; · iapply (Entails.of_eq (Tok_over c st)); iexact HT
  rw [show Fly m c st 7 = iprop(slotHas m c st (sl 7) (org st 7 c) fullShare ∗ slotAny c st (sl (6 + 2))) from if_neg (Nat.lt_irrefl 7), sl_add_two 6]
  isplitl [Hs] <;> iassumption

/-- The product of the band a stream holds. -/
theorem step_mul {α : Type} {Q : α → sProp 𝕄} (h : ℕ) {i j : ℕ} (hi : i = st.val) (hj : j = st.val + 1)
    {B : Memref sig .tc .vmem S2x256x8192 .bf16} (hB : B = bufM st) {off : Fin 3 → ℕ} (hoff : off = ![(sl h).val, 0, 0]) {inb : ∀ a, off a + S1x256x8192.size a ≤ S2x256x8192.size a}
    {offo : Fin 2 → ℕ} (hoffo : offo = ![1024 * (org st h c).val + row0 st, 0]) {inbo : ∀ a, offo a + S256x512.size a ≤ S8192x512.size a}
    {inbw : ∀ a, (![0, 0] : Fin 2 → ℕ) a + S8192x512.size a ≤ S8192x512.size a}
    {hl : B.view.LoadsAt (Rect.unit (s := S2x256x8192) off S1x256x8192.size inb).toLoadRect}
    {hl2 : wM.view.LoadsAt (Rect.unit (s := S8192x512) ![0, 0] S8192x512.size inbw).toLoadRect}
    {hl3 : oM.view.LoadsAt (Rect.unit (s := S8192x512) offo S256x512.size inbo).toLoadRect}
    {hx : (oM.access (Rect.unit (s := S8192x512) offo S256x512.size inbo)).Stores Finset.univ}
    {hm : Finset.univ = Finset.univ ∨ ∀ a, (Rect.unit (s := S8192x512) offo S256x512.size inbo).stride a = 1}
    (P : Vec F S1x256x8192 .bf16 → Vec F S8192x512 .bf16 → FVec F S256x512 .f32)
    (hP : ∀ v w, P v w = dotv (shapeCast S256x8192 v shapeCasts_S1x256x8192_S256x8192) w)
    {k : PUnit → Prog (TpuEff nD τ sig (Elt F) Λ₀ .tc) α} :
    iprop(Strm m c st h ∗ wHas m c ∗ outHas m c (upto h i))
      ⊢ iprop(((Strm m c st h ∗ wHas m c ∗ outHas m c (upto h j)) -∗ wp frame (wpE (defs₀ (F := F)) 𝒱₀ (c : Thread nD τ) none) Set.univ (k ⟨⟩) Q)
          -∗ wp frame (wpE (defs₀ (F := F)) 𝒱₀ (c : Thread nD τ) none) Set.univ
              (.op (.load B (Rect.unit (s := S2x256x8192) off S1x256x8192.size inb).toLoadRect hl) fun v =>
                .op (.load wM (Rect.unit (s := S8192x512) ![0, 0] S8192x512.size inbw).toLoadRect hl2) fun w =>
                .op (.load oM (Rect.unit (s := S8192x512) offo S256x512.size inbo).toLoadRect hl3) fun _ =>
                .op (.store oM (Rect.unit (s := S8192x512) offo S256x512.size inbo) (P v w) Finset.univ hx hm) k) Q) := by
  subst hi hj
  unfold Strm
  iintro ⟨⟨HP, HT, HF⟩, Hw, Ho⟩ Hk
  ihave HF := (Fly_read m c st h) $$ HF
  icases HF with ⟨%q, Hs, HF⟩
  iapply (step_dot m c st h (sl h) q hB hoff hoffo P hP) $$ [Hs Hw Ho]
  · isplitl [Hs]; · iexact Hs
    isplitl [Hw] <;> iassumption
  iintro ⟨Hs, Hw, Ho⟩
  iapply Hk
  isplitl [HP HT HF Hs]
  · isplitl [HP]; · iexact HP
    isplitl [HT]; · iexact HT
    iapply HF $$ Hs
  isplitl [Hw] <;> iassumption

end Cert.Rings

end
-- ==== Proof.Loop.lean ====
/-
# The loop

The invariant before trip `k` and one trip of it, at a device and a trip that stay symbols: the printed offsets and
device numbers are put in the terms of streams and slots, and the trip is then the steps of the four streams.
-/
module

public import proofs.«01_k».proof.Proof.Trip
public import proofs.«01_k».proof.Proof.Gen.KernelIdeal.Loops

@[expose] public section

noncomputable section

namespace Cert.Rings

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (sum_pos_exists add_pos_cases mayWait_of_levAts tallyAt_pos)

variable {F : FTy → Type} [FloatOps F]

local notation "𝕄" => MT nD τ sig ℕ (Elt F) ℕ UU ℕ

variable (m : (ℓ : Loc nD τ sig) → Buf (Elt F) ℓ) (ρ : Dev nD → PrngReg) (K : Dev nD × Role → ℕ)

/-- A slot of a stream, as a printed view of its buffer. -/
theorem slot_of {B : Memref sig .tc .vmem S2x256x8192 .bf16} (st : Fin 4) (hB : B = bufM st) (s : Fin 2) {off : Fin 3 → Nat} (h : off = ![s.val, 0, 0])
    (inb : ∀ a, off a + S1x256x8192.size a ≤ S2x256x8192.size a) :
    (B.slice (Rect.unit (s := S2x256x8192) off S1x256x8192.size inb) (fun _ => rfl)).squeeze S256x8192 squeezes_S1x256x8192_S256x8192
      = slotM st s := by subst hB; exact slotM_of st s h inb

theorem one_word : (1#32 : BitVec 32).toInt = 1 := rfl

/-! ## The printed numbers of a trip -/

section Numbers
variable (t : Fin k0_t1_loop.trips)

theorem at_cur : k0_off4 t = ![(sl t.val).val, 0, 0] := by revert t; decide +kernel
theorem at_next : k0_off3 t = ![(sl (t.val + 1)).val, 0, 0] := by revert t; decide +kernel
theorem at_load : k0_off16 t = ![(sl (t.val + 1)).val, 0, 0] := by revert t; decide +kernel

theorem at_out0 (c : Dev nD) : k0_off17 c t 1#32 0#32 = ![1024 * (org 0 (t.val + 1) c).val + row0 0, 0] := by revert c t; decide +kernel
theorem at_out1 (c : Dev nD) : k0_off17 c t 4294967295#32 512#32 = ![1024 * (org 1 (t.val + 1) c).val + row0 1, 0] := by revert c t; decide +kernel
theorem at_out2 (c : Dev nD) : k0_off17 c t 1#32 256#32 = ![1024 * (org 2 (t.val + 1) c).val + row0 2, 0] := by revert c t; decide +kernel
theorem at_out3 (c : Dev nD) : k0_off17 c t 4294967295#32 768#32 = ![1024 * (org 3 (t.val + 1) c).val + row0 3, 0] := by revert c t; decide +kernel

/-- The semaphores of the streams: what is received, what was sent. -/
theorem at_sems :
    (k0_off2 t = ![(0 : Fin 4).val, (sl (t.val + 1)).val] ∧ k0_off5 t = ![(0 : Fin 4).val, (sl t.val).val])
    ∧ (k0_off10 t = ![(1 : Fin 4).val, (sl (t.val + 1)).val] ∧ k0_off11 t = ![(1 : Fin 4).val, (sl t.val).val])
    ∧ (k0_off18 t = ![(2 : Fin 4).val, (sl (t.val + 1)).val] ∧ k0_off19 t = ![(2 : Fin 4).val, (sl t.val).val])
    ∧ (k0_off24 t = ![(3 : Fin 4).val, (sl (t.val + 1)).val] ∧ k0_off25 t = ![(3 : Fin 4).val, (sl t.val).val]) := by
  revert t; decide +kernel

/-- The views of the next hop: its two semaphores, where it lands, where it starts. -/
theorem at_hop :
    (k0_off6 t = ![(0 : Fin 4).val, (sl (t.val + 1)).val] ∧ k0_off7 t = ![(0 : Fin 4).val, (sl (t.val + 1 + 1)).val]
      ∧ k0_off8 t = ![(sl (t.val + 1 + 1)).val, 0, 0] ∧ k0_off9 t = ![(sl (t.val + 1)).val, 0, 0])
    ∧ (k0_off12 t = ![(1 : Fin 4).val, (sl (t.val + 1)).val] ∧ k0_off13 t = ![(1 : Fin 4).val, (sl (t.val + 1 + 1)).val]
      ∧ k0_off14 t = ![(sl (t.val + 1 + 1)).val, 0, 0] ∧ k0_off15 t = ![(sl (t.val + 1)).val, 0, 0])
    ∧ (k0_off20 t = ![(2 : Fin 4).val, (sl (t.val + 1)).val] ∧ k0_off21 t = ![(2 : Fin 4).val, (sl (t.val + 1 + 1)).val]
      ∧ k0_off22 t = ![(sl (t.val + 1 + 1)).val, 0, 0] ∧ k0_off23 t = ![(sl (t.val + 1)).val, 0, 0])
    ∧ (k0_off26 t = ![(3 : Fin 4).val, (sl (t.val + 1)).val] ∧ k0_off27 t = ![(3 : Fin 4).val, (sl (t.val + 1 + 1)).val]
      ∧ k0_off28 t = ![(sl (t.val + 1 + 1)).val, 0, 0] ∧ k0_off29 t = ![(sl (t.val + 1)).val, 0, 0]) := by
  revert t; decide +kernel

/-- The conditions hold on all trips but the last. -/
theorem at_if : t.val < 6 → k0_cond1 t = 1#1 ∧ k0_cond2 t = 1#1 ∧ k0_cond3 t = 1#1 ∧ k0_cond4 t = 1#1
    ∧ k0_cond5 t = 1#1 ∧ k0_cond6 t = 1#1 ∧ k0_cond7 t = 1#1 ∧ k0_cond8 t = 1#1 := by revert t; decide +kernel
theorem at_last : ¬t.val < 6 → ¬k0_cond1 t = 1#1 ∧ ¬k0_cond2 t = 1#1 ∧ ¬k0_cond3 t = 1#1 ∧ ¬k0_cond4 t = 1#1
    ∧ ¬k0_cond5 t = 1#1 ∧ ¬k0_cond6 t = 1#1 ∧ ¬k0_cond7 t = 1#1 ∧ ¬k0_cond8 t = 1#1 := by revert t; decide +kernel

/-- Leave goes back along a stream, a band goes on along it. -/
theorem at_devs : ∀ c : Dev nD,
    (k0_dev7 c = (back 0 c).val ∧ k0_dev8 c = (fwd 0 c).val) ∧ (k0_dev9 c = (back 1 c).val ∧ k0_dev10 c = (fwd 1 c).val)
    ∧ (k0_dev11 c = (back 2 c).val ∧ k0_dev12 c = (fwd 2 c).val) ∧ (k0_dev13 c = (back 3 c).val ∧ k0_dev14 c = (fwd 3 c).val) := by
  decide +kernel

theorem trips_lt : t.val < 7 := by revert t; decide +kernel

end Numbers

/-! ## The invariant and a trip -/

/-- A device before trip `k`. -/
def Inv (c : Dev nD) (k : ℕ) : sProp 𝕄 :=
  iprop(Recs m K ∗ levAts L lv ∗ Owes c (fun _ => min (k + 1) 7) (fun _ => min k 6)
    ∗ (Strm m c 0 k ∗ Strm m c 1 k ∗ Strm m c 2 k ∗ Strm m c 3 k) ∗ wHas m c ∗ outHas m c (fun _ => k + 1))

abbrev tripProg (c : Dev nD) (v2 v5 v7 : BitVec 32) : Fin k0_t1_loop.trips → Unit → Prog (TpuEff nD τ sig (Elt F) Λ₀ .tc) Unit :=
  k0_t1_body (F := F) (Memref.whole main_arg0) (Memref.isWhole_whole _) wM (Memref.isWhole_whole _) oM (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) cc0_scratch4 cc0_scratch5 cc0_scratch6 cc0_scratch7 c v2 v5 v7

set_option maxHeartbeats 2000000 in
/-- A trip that is not the last. -/
theorem trip_on (c : Dev nD) (v2 v5 v7 : BitVec 32) (t : Fin k0_t1_loop.trips) (ht : t.val < 6) :
    Inv m K c t.val ⊢ wp frame (wpE (defs₀ (F := F)) 𝒱₀ (c : Thread nD τ) none) Set.univ (tripProg c v2 v5 v7 t ()) (fun _ => Inv m K c (t.val + 1)) := by
  obtain ⟨⟨r0, s0⟩, ⟨r1, s1⟩, ⟨r2, s2⟩, ⟨r3, s3⟩⟩ := at_sems t
  obtain ⟨⟨u0, v0, x0, y0⟩, ⟨u1, v1, x1, y1⟩, ⟨u2, v2', x2, y2⟩, ⟨u3, v3, x3, y3⟩⟩ := at_hop t
  obtain ⟨⟨b0, f0⟩, ⟨b1, f1⟩, ⟨b2, f2⟩, ⟨b3, f3⟩⟩ := at_devs c
  obtain ⟨c1, c2, c3, c4, c5, c6, c7, c8⟩ := at_if t ht
  have e3 := at_next t; have e4 := at_cur t; have e16 := at_load t
  have o0 := at_out0 t c; have o1 := at_out1 t c; have o2 := at_out2 t c; have o3 := at_out3 t c
  unfold tripProg k0_t1_body
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [dif_pos c1, dif_pos c2, dif_pos c3, dif_pos c4, dif_pos c5, dif_pos c6, dif_pos c7, dif_pos c8,
    semSignalWord, semWaitWord, one_word, Prog.lift, Prog.bind_op, Prog.bind_ret, Prog.pure_eq_ret, Prog.bind_assoc]
  unfold Inv
  rw [show min (t.val + 1) 7 = t.val + 1 by omega, show min t.val 6 = t.val by omega]
  rw [← upto_zero (t.val + 1), ← upto_zero t.val]
  iintro ⟨#HR, #HL, HO, ⟨H0, H1, H2, H3⟩, Hw, Ho⟩
  iapply (step_hop m K c 0 ht (i := 0) (j := 1) rfl rfl (recvQ_of 0 _ r0 _) (slot_of 0 rfl _ e3 _) (sendQ_of 0 _ s0 _) (slot_of 0 rfl _ e4 _)
    (Fin.ext b0) (credQ_of 0 rfl _) (credQ_of 0 rfl _) (Fin.ext f0) (sendQ_of 0 _ u0 _) (recvQ_of 0 _ v0 _) (slot_of 0 rfl _ y0 _) (slot_of 0 rfl _ x0 _)) $$ [HO H0]
  · isplitr; · iexact HR
    isplitr; · iexact HL
    isplitl [HO] <;> iassumption
  iintro ⟨HO, H0⟩
  iapply (step_hop m K c 1 ht (i := 1) (j := 2) rfl rfl (recvQ_of 1 _ r1 _) (slot_of 1 rfl _ e3 _) (sendQ_of 1 _ s1 _) (slot_of 1 rfl _ e4 _)
    (Fin.ext b1) (credQ_of 1 rfl _) (credQ_of 1 rfl _) (Fin.ext f1) (sendQ_of 1 _ u1 _) (recvQ_of 1 _ v1 _) (slot_of 1 rfl _ y1 _) (slot_of 1 rfl _ x1 _)) $$ [HO H1]
  · isplitr; · iexact HR
    isplitr; · iexact HL
    isplitl [HO] <;> iassumption
  iintro ⟨HO, H1⟩
  iapply (step_mul m c 0 (t.val + 1) (i := 0) (j := 1) rfl rfl rfl e16 o0 k0_pay2 (fun _ _ => rfl)) $$ [H0 Hw Ho]
  · isplitl [H0]; · iexact H0
    isplitl [Hw] <;> iassumption
  iintro ⟨H0, Hw, Ho⟩
  iapply (step_mul m c 1 (t.val + 1) (i := 1) (j := 2) rfl rfl rfl e16 o1 k0_pay3 (fun _ _ => rfl)) $$ [H1 Hw Ho]
  · isplitl [H1]; · iexact H1
    isplitl [Hw] <;> iassumption
  iintro ⟨H1, Hw, Ho⟩
  iapply (step_hop m K c 2 ht (i := 2) (j := 3) rfl rfl (recvQ_of 2 _ r2 _) (slot_of 2 rfl _ e3 _) (sendQ_of 2 _ s2 _) (slot_of 2 rfl _ e4 _)
    (Fin.ext b2) (credQ_of 2 rfl _) (credQ_of 2 rfl _) (Fin.ext f2) (sendQ_of 2 _ u2 _) (recvQ_of 2 _ v2' _) (slot_of 2 rfl _ y2 _) (slot_of 2 rfl _ x2 _)) $$ [HO H2]
  · isplitr; · iexact HR
    isplitr; · iexact HL
    isplitl [HO] <;> iassumption
  iintro ⟨HO, H2⟩
  iapply (step_hop m K c 3 ht (i := 3) (j := 4) rfl rfl (recvQ_of 3 _ r3 _) (slot_of 3 rfl _ e3 _) (sendQ_of 3 _ s3 _) (slot_of 3 rfl _ e4 _)
    (Fin.ext b3) (credQ_of 3 rfl _) (credQ_of 3 rfl _) (Fin.ext f3) (sendQ_of 3 _ u3 _) (recvQ_of 3 _ v3 _) (slot_of 3 rfl _ y3 _) (slot_of 3 rfl _ x3 _)) $$ [HO H3]
  · isplitr; · iexact HR
    isplitr; · iexact HL
    isplitl [HO] <;> iassumption
  iintro ⟨HO, H3⟩
  iapply (step_mul m c 2 (t.val + 1) (i := 2) (j := 3) rfl rfl rfl e16 o2 k0_pay4 (fun _ _ => rfl)) $$ [H2 Hw Ho]
  · isplitl [H2]; · iexact H2
    isplitl [Hw] <;> iassumption
  iintro ⟨H2, Hw, Ho⟩
  iapply (step_mul m c 3 (t.val + 1) (i := 3) (j := 4) rfl rfl rfl e16 o3 k0_pay5 (fun _ _ => rfl)) $$ [H3 Hw Ho]
  · isplitl [H3]; · iexact H3
    isplitl [Hw] <;> iassumption
  iintro ⟨H3, Hw, Ho⟩
  rw [wp_ret]
  imodintro
  isplitr; · iexact HR
  isplitr; · iexact HL
  isplitl [HO]; · iapply (Entails.of_eq (congrArg (Owing (F := F) c) (show _ = Owe c (fun _ => min (t.val + 1 + 1) 7) (fun _ => min (t.val + 1) 6) by rw [show min (t.val + 1 + 1) 7 = t.val + 1 + 1 by omega, show min (t.val + 1) 6 = t.val + 1 by omega, ← upto_four (t.val + 1), ← upto_four t.val]))); iexact HO
  isplitl [H0 H1 H2 H3]
  · isplitl [H0]; · iexact H0
    isplitl [H1]; · iexact H1
    isplitl [H2] <;> iassumption
  isplitl [Hw]; · iexact Hw
  rw [← upto_four (t.val + 1)]; iexact Ho

set_option maxHeartbeats 2000000 in
/-- The last trip. -/
theorem trip_off (c : Dev nD) (v2 v5 v7 : BitVec 32) (t : Fin k0_t1_loop.trips) (ht : ¬t.val < 6) :
    Inv m K c t.val ⊢ wp frame (wpE (defs₀ (F := F)) 𝒱₀ (c : Thread nD τ) none) Set.univ (tripProg c v2 v5 v7 t ()) (fun _ => Inv m K c (t.val + 1)) := by
  obtain ⟨⟨r0, s0⟩, ⟨r1, s1⟩, ⟨r2, s2⟩, ⟨r3, s3⟩⟩ := at_sems t
  obtain ⟨c1, c2, c3, c4, c5, c6, c7, c8⟩ := at_last t ht
  have e3 := at_next t; have e4 := at_cur t; have e16 := at_load t
  have o0 := at_out0 t c; have o1 := at_out1 t c; have o2 := at_out2 t c; have o3 := at_out3 t c
  have h6 : t.val = 6 := by have := trips_lt t; omega
  rw [h6] at r0 s0 r1 s1 r2 s2 r3 s3 e3 e4 e16 o0 o1 o2 o3 ⊢
  unfold tripProg k0_t1_body
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [dif_neg c1, dif_neg c2, dif_neg c3, dif_neg c4, dif_neg c5, dif_neg c6, dif_neg c7, dif_neg c8,
    Prog.lift, Prog.bind_op, Prog.bind_ret, Prog.pure_eq_ret, Prog.bind_assoc]
  unfold Inv
  rw [show min (6 + 1) 7 = 7 from rfl, show min 6 6 = 6 from rfl]
  iintro ⟨#HR, #HL, HO, ⟨H0, H1, H2, H3⟩, Hw, Ho⟩
  ihave Ho := (Entails.of_eq (congrArg (outHas m c) (upto_zero (6 + 1)).symm)) $$ Ho
  iapply (step_end m K c 0 (recvQ_of 0 _ r0 _) (slot_of 0 rfl _ e3 _) (sendQ_of 0 _ s0 _) (slot_of 0 rfl _ e4 _)) $$ [HO H0]
  · isplitr; · iexact HR
    isplitr; · iexact HL
    isplitl [HO] <;> iassumption
  iintro ⟨HO, H0⟩
  iapply (step_end m K c 1 (recvQ_of 1 _ r1 _) (slot_of 1 rfl _ e3 _) (sendQ_of 1 _ s1 _) (slot_of 1 rfl _ e4 _)) $$ [HO H1]
  · isplitr; · iexact HR
    isplitr; · iexact HL
    isplitl [HO] <;> iassumption
  iintro ⟨HO, H1⟩
  iapply (step_mul m c 0 (6 + 1) (i := 0) (j := 1) rfl rfl rfl e16 o0 k0_pay2 (fun _ _ => rfl)) $$ [H0 Hw Ho]
  · isplitl [H0]; · iexact H0
    isplitl [Hw] <;> iassumption
  iintro ⟨H0, Hw, Ho⟩
  iapply (step_mul m c 1 (6 + 1) (i := 1) (j := 2) rfl rfl rfl e16 o1 k0_pay3 (fun _ _ => rfl)) $$ [H1 Hw Ho]
  · isplitl [H1]; · iexact H1
    isplitl [Hw] <;> iassumption
  iintro ⟨H1, Hw, Ho⟩
  iapply (step_end m K c 2 (recvQ_of 2 _ r2 _) (slot_of 2 rfl _ e3 _) (sendQ_of 2 _ s2 _) (slot_of 2 rfl _ e4 _)) $$ [HO H2]
  · isplitr; · iexact HR
    isplitr; · iexact HL
    isplitl [HO] <;> iassumption
  iintro ⟨HO, H2⟩
  iapply (step_end m K c 3 (recvQ_of 3 _ r3 _) (slot_of 3 rfl _ e3 _) (sendQ_of 3 _ s3 _) (slot_of 3 rfl _ e4 _)) $$ [HO H3]
  · isplitr; · iexact HR
    isplitr; · iexact HL
    isplitl [HO] <;> iassumption
  iintro ⟨HO, H3⟩
  iapply (step_mul m c 2 (6 + 1) (i := 2) (j := 3) rfl rfl rfl e16 o2 k0_pay4 (fun _ _ => rfl)) $$ [H2 Hw Ho]
  · isplitl [H2]; · iexact H2
    isplitl [Hw] <;> iassumption
  iintro ⟨H2, Hw, Ho⟩
  iapply (step_mul m c 3 (6 + 1) (i := 3) (j := 4) rfl rfl rfl e16 o3 k0_pay5 (fun _ _ => rfl)) $$ [H3 Hw Ho]
  · isplitl [H3]; · iexact H3
    isplitl [Hw] <;> iassumption
  iintro ⟨H3, Hw, Ho⟩
  rw [wp_ret]
  imodintro
  isplitr; · iexact HR
  isplitr; · iexact HL
  isplitl [HO]; · iapply (Entails.of_eq (rfl)); iexact HO
  isplitl [H0 H1 H2 H3]
  · isplitl [H0]; · iexact H0
    isplitl [H1]; · iexact H1
    isplitl [H2] <;> iassumption
  isplitl [Hw]; · iexact Hw
  rw [← upto_four (6 + 1)]; iexact Ho

/-- The loop keeps the invariant. -/
@[instance_reducible, sl_loop] def loopInv (c : Dev nD) (v2 v5 v7 : BitVec 32) :
    LoopInvTy_k0_t1 (F := F) ℕ ℕ UU ℕ 𝒱₀ c none Set.univ (Memref.whole main_arg0) (Memref.isWhole_whole _) wM (Memref.isWhole_whole _) oM (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) cc0_scratch4 cc0_scratch5 cc0_scratch6 cc0_scratch7 c v2 v5 v7 :=
  ⟨fun k _ => Inv m K c k, fun t _ => if h : t.val < 6 then trip_on m K c v2 v5 v7 t h else trip_off m K c v2 v5 v7 t h⟩

end Cert.Rings

end
-- ==== Proof.Ends.lean ====
/-
# Before the loop and after it

What a device holds besides its place in the streams: the two slots of a stream are its whole buffer, and when the last
band is in, every one of its counters is zero again and can be given back.
-/
module

public import proofs.«01_k».proof.Proof.Trip

@[expose] public section

noncomputable section

namespace Cert.Rings

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (sum_pos_exists add_pos_cases mayWait_of_levAts tallyAt_pos)

variable {F : FTy → Type} [FloatOps F]

local notation "𝕄" => MT nD τ sig ℕ (Elt F) ℕ UU ℕ

variable (m : (ℓ : Loc nD τ sig) → Buf (Elt F) ℓ) (ρ : Dev nD → PrngReg) (K : Dev nD × Role → ℕ)

/-! ## A buffer and its two slots -/

section Slots
variable (c : Dev nD) (st : Fin 4)

/-- A stream's buffer whole, whatever it holds. -/
def bufAny : sProp 𝕄 :=
  iprop(∃ f : Buf (Elt F) ((bufM st).view.loc (c : Thread nD τ)), (bufM st).view.loc (c : Thread nD τ) ↦[(bufM st).view.set]{fullShare} f)

theorem slot_set (s : Fin 2) : (slotM st s).view.set = (slotR s).set.map (bufM st).view.emb := by
  unfold slotM; rw [Memref.set_view_squeeze]; exact View.set_slice _ _

theorem slotR_disjoint : Disjoint (slotR 0).set (slotR 1).set := by
  rw [Finset.disjoint_left]
  intro i h h'
  have h0 := (Rect.mem_set_unit.mp h) 0
  have h1 := (Rect.mem_set_unit.mp h') 0
  have e0 : (i 0 : ℕ) < 0 + 1 := h0.2
  have e1 : 1 ≤ (i 0 : ℕ) := h1.1
  omega

theorem slotR_cover : (slotR 0).set ∪ (slotR 1).set = Finset.univ := by
  ext i
  rw [Finset.mem_union, Rect.mem_set_unit, Rect.mem_set_unit]
  refine iff_of_true ?_ (Finset.mem_univ _)
  have h0 : (i 0 : ℕ) < 2 := (i 0).isLt
  have h1 : (i 1 : ℕ) < 256 := (i 1).isLt
  have h2 : (i 2 : ℕ) < 8192 := (i 2).isLt
  by_cases h : (i 0 : ℕ) = 0
  · left; intro a; fin_cases a
    · show 0 ≤ (i 0 : ℕ) ∧ (i 0 : ℕ) < 0 + 1; omega
    · show 0 ≤ (i 1 : ℕ) ∧ (i 1 : ℕ) < 0 + 256; omega
    · show 0 ≤ (i 2 : ℕ) ∧ (i 2 : ℕ) < 0 + 8192; omega
  · right; intro a; fin_cases a
    · show 1 ≤ (i 0 : ℕ) ∧ (i 0 : ℕ) < 1 + 1; omega
    · show 0 ≤ (i 1 : ℕ) ∧ (i 1 : ℕ) < 0 + 256; omega
    · show 0 ≤ (i 2 : ℕ) ∧ (i 2 : ℕ) < 0 + 8192; omega

theorem slots_disjoint : Disjoint ((slotR 0).set.map (bufM st).view.emb) ((slotR 1).set.map (bufM st).view.emb) :=
  (Finset.disjoint_map _).mpr slotR_disjoint

theorem slots_cover : (bufM st).view.set = (slotR 0).set.map (bufM st).view.emb ∪ (slotR 1).set.map (bufM st).view.emb := by
  rw [← Finset.map_union, slotR_cover]; rfl

omit [FloatOps F] in
theorem bufAny_slots : bufAny c st ⊢ (iprop(slotAny c st 0 ∗ slotAny c st 1) : sProp 𝕄) := by
  unfold bufAny slotAny slotPts
  rw [slot_set, slot_set, slots_cover]
  iintro ⟨%f, H⟩
  ihave H := (pointsTo_union (slots_disjoint st)).1 $$ H
  icases H with ⟨H0, H1⟩
  isplitl [H0]
  · iexists f; iexact H0
  · iexists f; iexact H1

omit [FloatOps F] in
theorem bufAny_of_slots : iprop(slotAny c st 0 ∗ slotAny c st 1) ⊢ (bufAny c st : sProp 𝕄) := by
  unfold bufAny slotAny slotPts
  rw [slot_set, slot_set, slots_cover]
  iintro ⟨⟨%f, H0⟩, ⟨%g, H1⟩⟩
  iexists _
  iapply (pointsTo_join (f := f) (g := g) (slots_disjoint st))
  isplitl [H0]; · iexact H0
  iexact H1

end Slots

/-! ## Closing the cells -/

section Close
variable (c : Dev nD)

omit [FloatOps F] in
/-- A cell past its last round: its counter is zero, and the owner's. -/
theorem close_cell (R : Role) (r : ℕ) (hr : last R ≤ r) : iprop(Recs m K ∗ At c R r) ⊢ (|={Set.univ}=> semVal (cell c R) 0 : sProp 𝕄) := by
  unfold At
  iintro ⟨#HR, Hat, -⟩
  ihave Hi := (Recs_at m K c R) $$ HR
  icases Hi with ⟨#HI, -⟩
  imod (Rounds.cell_close ER (Rd m) (κ := K (c, R)) (Set.mem_univ _) (fun h => h) (R := r) (fun r' h => duties_later m c R r' (hr.trans h))) $$ [Hat] with Hz
  · isplitr; · iexact HI
    iexact Hat
  imodintro; iexact Hz

/-- A stream's six counters at zero. -/
def zeros (st : Fin 4) : sProp 𝕄 := bigSep Finset.univ fun k : Kd => semVal (cell c (.inr (st, k))) 0

omit [FloatOps F] in
theorem zeros_eq (st : Fin 4) : (zeros c st : sProp 𝕄)
    = iprop(semVal (cell c (.inr (st, .recv 0))) 0 ∗ semVal (cell c (.inr (st, .recv 1))) 0 ∗ semVal (cell c (.inr (st, .send 0))) 0
        ∗ semVal (cell c (.inr (st, .send 1))) 0 ∗ semVal (cell c (cr st)) 0 ∗ semVal (cell c (cp st)) 0) := by
  unfold zeros; rw [bigSep_univ_eq_bigSepL Kd.all (by decide) (by decide)]; rfl

omit [FloatOps F] in
/-- A stream is over: its counters are zero, and its buffer is whole. -/
theorem close_stream (st : Fin 4) : iprop(Recs m K ∗ Strm m c st 7 ∗ At c (cp st) 1) ⊢ (|={Set.univ}=> iprop(zeros c st ∗ bufAny c st) : sProp 𝕄) := by
  rw [zeros_eq]
  unfold Strm Pos
  rw [show Fly m c st 7 = iprop(slotHas m c st 1 (org st 7 c) fullShare ∗ slotAny c st 0) from if_neg (Nat.lt_irrefl 7)]
  iintro ⟨#HR, ⟨⟨Ha, Ha1, Hb, Hb1, He⟩, -, Hs, Hs'⟩, Hc⟩
  imod (close_cell m K c (.inr (st, .recv 0)) (7 / 2) (by simp [last])) $$ [Ha] with H0
  · isplitr; · iexact HR
    iexact Ha
  imod (close_cell m K c (.inr (st, .recv 1)) ((7 + 1) / 2) (by simp [last])) $$ [Ha1] with H1
  · isplitr; · iexact HR
    iexact Ha1
  imod (close_cell m K c (.inr (st, .send 1)) (7 / 2) (by simp [last])) $$ [Hb] with H3
  · isplitr; · iexact HR
    iexact Hb
  imod (close_cell m K c (.inr (st, .send 0)) ((7 + 1) / 2) (by simp [last])) $$ [Hb1] with H2
  · isplitr; · iexact HR
    iexact Hb1
  imod (close_cell m K c (cr st) (min 7 6) (by simp [last])) $$ [He] with H4
  · isplitr; · iexact HR
    iexact He
  imod (close_cell m K c (cp st) 1 (le_refl _)) $$ [Hc] with H5
  · isplitr; · iexact HR
    iexact Hc
  imodintro
  isplitl [H0 H1 H2 H3 H4 H5]
  · isplitl [H0]; · iexact H0
    isplitl [H1]; · iexact H1
    isplitl [H2]; · iexact H2
    isplitl [H3]; · iexact H3
    isplitl [H4] <;> iassumption
  iapply (bufAny_of_slots c st)
  isplitl [Hs']; · iexact Hs'
  iapply (slotHas_any m c st 1 (org st 7 c)); iexact Hs

end Close

/-! ## The first hop -/

/-- The first send of a stream: the band a device brought in itself. -/
theorem step_first (c : Dev nD) (st : Fin 4) {α : Type} {Q : α → sProp 𝕄} {k : PUnit → Prog (TpuEff nD τ sig (Elt F) Λ₀ .tc) α} {i j : ℕ} (hi : i = st.val) (hj : j = st.val + 1)
    {n : Dev nD} (hn : n = fwd st c) {qs qr : DmaSem sig} (hqs : qs = sendQ st 0) (hqr : qr = recvQ st 1)
    {src dst : Memref sig .tc .vmem S256x8192 .bf16} (hsr : src = slotM st 0) (hds : dst = slotM st 1)
    {hsc : (dst : Memref sig (Dev.tc n : Thread nD τ).2.kind .vmem S256x8192 .bf16).view.ref.isScScratch = false}
    {hsrc : src.view.WordExact} {hdst : dst.view.WordExact}
    {hsem : DmaTarget.Typed .vmem (.dma qr) (.remote (Dev.tc n : Thread nD τ) (dst : Memref sig .tc .vmem S256x8192 .bf16) (.dma qs) hsc)} :
    iprop(Recs m K ∗ Owes c (upto 0 i) (fun _ => 0) ∗ Pos c st 0 0 0 ∗ Tok c st 0 0 0 0 ∗ slotHas m c st 0 c fullShare ∗ grant c st 0)
      ⊢ iprop(((Owes c (upto 0 j) (fun _ => 0) ∗ Strm m c st 0)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma qs) hsc) (.dma qr) hsrc hdst hsem) k) Q) := by
  subst hi hj
  iintro ⟨#HR, HO, HP, HT, Hs, Hg⟩ Hk
  iapply (step_send m K c st (show 0 < 7 by omega) 0 0 0 0 _ n hn qs qr hqs hqr hsr hds) $$ [HO HP HT Hs Hg]
  · isplitr; · iexact HR
    isplitl [HO]; · iexact HO
    isplitl [HP]; · iexact HP
    isplitl [HT]; · iexact HT
    isplitl [Hs]; · iapply (Entails.of_eq (show slotHas m c st 0 c fullShare = slotHas m c st (sl 0) (org st 0 c) fullShare from rfl)); iexact Hs
    iexact Hg
  iintro ⟨HO, HP, HT, HF⟩
  iapply Hk
  isplitl [HO]; · iexact HO
  unfold Strm
  isplitl [HP]; · rw [Nat.zero_min]; iexact HP
  isplitl [HT]; · iapply (Entails.of_eq (show Tok c st (0 + 1) 0 0 0 = Tok c st 1 0 0 0 from rfl)); iexact HT
  iexact HF

end Cert.Rings

end
-- ==== Proof.Body.lean ====
/-
# A device's whole run

From its place at the start — its four bands still in `x`, its buffers empty, leave to send not yet exchanged — a device
brings its bands in, exchanges leave with its neighbours, sends its own bands on, multiplies them, and runs the loop; at the
end it holds every product, its buffers, and its counters at zero.
-/
module

public import proofs.«01_k».proof.Proof.Loop
public import proofs.«01_k».proof.Proof.Ends

@[expose] public section

noncomputable section

namespace Cert.Rings

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (sum_pos_exists add_pos_cases mayWait_of_levAts tallyAt_pos)

variable {F : FTy → Type} [FloatOps F]

local notation "𝕄" => MT nD τ sig ℕ (Elt F) ℕ UU ℕ

variable (m : (ℓ : Loc nD τ sig) → Buf (Elt F) ℓ) (ρ : Dev nD → PrngReg) (K : Dev nD × Role → ℕ)

theorem two_word : (2#32 : BitVec 32).toInt = 2 := rfl

/-! ## The printed numbers before the loop -/

/-- The neighbours: the two signals, the four sends. -/
theorem at_start : ∀ c : Dev nD,
    (k0_dev1 c = (prv c).val ∧ k0_dev2 c = (nxt c).val)
    ∧ k0_dev3 c = (fwd 0 c).val ∧ k0_dev4 c = (fwd 1 c).val ∧ k0_dev5 c = (fwd 2 c).val ∧ k0_dev6 c = (fwd 3 c).val := by
  decide +kernel

/-- The rows of a device's own products. -/
theorem at_own : ∀ c : Dev nD,
    k0_off1 c 0#32 = ![1024 * (org 0 0 c).val + row0 0, 0] ∧ k0_off1 c 512#32 = ![1024 * (org 1 0 c).val + row0 1, 0]
    ∧ k0_off1 c 256#32 = ![1024 * (org 2 0 c).val + row0 2, 0] ∧ k0_off1 c 768#32 = ![1024 * (org 3 0 c).val + row0 3, 0] := by
  decide +kernel

/-- A band of `x`, as a printed view. -/
theorem band_of (st : Fin 4) {off : Fin 2 → Nat} (h : off = ![row0 st, 0]) (inb : ∀ a, off a + S256x8192.size a ≤ S1024x8192.size a) :
    (Memref.whole main_arg0 : Memref sig .tc .hbm S1024x8192 .bf16).slice (Rect.unit (s := S1024x8192) off S256x8192.size inb) (fun _ => rfl) = xband st := by
  subst h; rfl

/-! ## What a device starts from and what it ends with -/

/-- What a device has of a stream at the start, besides the buffer. -/
def Pre (c : Dev nD) (st : Fin 4) : sProp 𝕄 :=
  iprop(Pos c st 0 0 0 ∗ Tok c st 0 0 0 0 ∗ At c (cp st) 0 ∗ dutyTok ER (cell c (cp st)) 0 false ∗ srcHas m c st)

/-- What it has of the barrier. -/
def Gate (c : Dev nD) : sProp 𝕄 :=
  iprop(At c bar 0 ∗ dutyTok ER (cell (prv c) bar) 0 true ∗ dutyTok ER (cell (nxt c) bar) 0 false ∗ cred (tallyAt (cell c bar) 0 2))

def Bufs (c : Dev nD) : sProp 𝕄 := iprop(bufAny c 0 ∗ bufAny c 1 ∗ bufAny c 2 ∗ bufAny c 3)

def Zeros (c : Dev nD) : sProp 𝕄 := iprop(semVal (cell c bar) 0 ∗ zeros c 0 ∗ zeros c 1 ∗ zeros c 2 ∗ zeros c 3)

/-- What it ends with. -/
def Done (c : Dev nD) : sProp 𝕄 := iprop(Owing c 0 ∗ Zeros c ∗ Bufs c ∗ wHas m c ∗ outHas m c (fun _ => 8))

set_option maxHeartbeats 4000000 in
/-- The run of the kernel's body. -/
theorem run_body (c : Dev nD) (Kt : PUnit → sProp 𝕄) :
    iprop(Recs m K ∗ levAts L lv ∗ (Pre m c 0 ∗ Pre m c 1 ∗ Pre m c 2 ∗ Pre m c 3) ∗ Gate c ∗ Bufs c ∗ Owing c (O₀ c) ∗ wHas m c ∗ outHas m c (fun _ => 0)
        ∗ (Done m c -∗ Kt ⟨⟩))
      ⊢ wp frame (wpE (defs₀ (F := F)) 𝒱₀ (c : Thread nD τ) none) Set.univ
          (cc0_body (F := F) (Memref.whole main_arg0) (Memref.isWhole_whole _) wM (Memref.isWhole_whole _) oM (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) cc0_scratch4 cc0_scratch5 cc0_scratch6 cc0_scratch7) Kt := by
  obtain ⟨⟨n1, n2⟩, n3, n4, n5, n6⟩ := at_start c
  obtain ⟨o0, o1, o2, o3⟩ := at_own c
  have x0 : (![0, 0] : Fin 2 → ℕ) = ![row0 0, 0] := rfl
  have x1 : (![512, 0] : Fin 2 → ℕ) = ![row0 1, 0] := rfl
  have x2 : (![256, 0] : Fin 2 → ℕ) = ![row0 2, 0] := rfl
  have x3 : (![768, 0] : Fin 2 → ℕ) = ![row0 3, 0] := rfl
  have q0 : (![0] : Fin 1 → ℕ) = ![(0 : Fin 4).val] := rfl
  have q1 : (![1] : Fin 1 → ℕ) = ![(1 : Fin 4).val] := rfl
  have q2 : (![2] : Fin 1 → ℕ) = ![(2 : Fin 4).val] := rfl
  have q3 : (![3] : Fin 1 → ℕ) = ![(3 : Fin 4).val] := rfl
  have s0 : (![0, 0, 0] : Fin 3 → ℕ) = ![(0 : Fin 2).val, 0, 0] := rfl
  have s1 : (![1, 0, 0] : Fin 3 → ℕ) = ![(1 : Fin 2).val, 0, 0] := rfl
  have e0 : (![0, 0, 0] : Fin 3 → ℕ) = ![(sl 0).val, 0, 0] := rfl
  have p0 : (![0, 0] : Fin 2 → ℕ) = ![(0 : Fin 4).val, (0 : Fin 2).val] := rfl
  have p1 : (![1, 0] : Fin 2 → ℕ) = ![(1 : Fin 4).val, (0 : Fin 2).val] := rfl
  have p2 : (![2, 0] : Fin 2 → ℕ) = ![(2 : Fin 4).val, (0 : Fin 2).val] := rfl
  have p3 : (![3, 0] : Fin 2 → ℕ) = ![(3 : Fin 4).val, (0 : Fin 2).val] := rfl
  have r0 : (![0, 1] : Fin 2 → ℕ) = ![(0 : Fin 4).val, (1 : Fin 2).val] := rfl
  have r1 : (![1, 1] : Fin 2 → ℕ) = ![(1 : Fin 4).val, (1 : Fin 2).val] := rfl
  have r2 : (![2, 1] : Fin 2 → ℕ) = ![(2 : Fin 4).val, (1 : Fin 2).val] := rfl
  have r3 : (![3, 1] : Fin 2 → ℕ) = ![(3 : Fin 4).val, (1 : Fin 2).val] := rfl
  simp only [cc0_body_eq_skeleton]
  unfold cc0_body_skel
  simp only [k0_part6_eq_skeleton, k0_part7_eq_skeleton, k0_part8_eq_skeleton, k0_part9_eq_skeleton, k0_part10_eq_skeleton]
  unfold k0_part6_skel k0_part7_skel k0_part8_skel k0_part9_skel k0_part10_skel
  simp only [semSignalWord, semWaitWord, one_word, two_word, Prog.lift, Prog.bind_op, Prog.bind_ret, Prog.pure_eq_ret, Prog.bind_assoc, wp_deviceId]
  unfold Pre Gate Bufs
  iintro ⟨#HR, #HL, ⟨⟨P0, T0, C0, D0, X0⟩, ⟨P1, T1, C1, D1, X1⟩, ⟨P2, T2, C2, D2, X2⟩, ⟨P3, T3, C3, D3, X3⟩⟩, ⟨Hb, Hbp, Hbn, Hbc⟩, ⟨B0, B1, B2, B3⟩, HO, Hw, Ho, Hk⟩
  ihave S0 := (bufAny_slots c 0) $$ B0
  icases S0 with ⟨S0, E0⟩
  ihave S1 := (bufAny_slots c 1) $$ B1
  icases S1 with ⟨S1, E1⟩
  ihave S2 := (bufAny_slots c 2) $$ B2
  icases S2 with ⟨S2, E2⟩
  ihave S3 := (bufAny_slots c 3) $$ B3
  icases S3 with ⟨S3, E3⟩
  -- the four bands of `x` come in
  iapply (step_copy m K c 0 _ (copyQ_of 0 q0 _) (band_of 0 x0 _) (slot_of 0 rfl 0 s0 _)) $$ [X0 S0 D0]
  · isplitr; · iexact HR
    isplitl [X0]; · iexact X0
    isplitl [S0] <;> iassumption
  iintro K0
  iapply (step_copy m K c 1 _ (copyQ_of 1 q1 _) (band_of 1 x1 _) (slot_of 1 rfl 0 s0 _)) $$ [X1 S1 D1]
  · isplitr; · iexact HR
    isplitl [X1]; · iexact X1
    isplitl [S1] <;> iassumption
  iintro K1
  iapply (step_copy m K c 2 _ (copyQ_of 2 q2 _) (band_of 2 x2 _) (slot_of 2 rfl 0 s0 _)) $$ [X2 S2 D2]
  · isplitr; · iexact HR
    isplitl [X2]; · iexact X2
    isplitl [S2] <;> iassumption
  iintro K2
  iapply (step_copy m K c 3 _ (copyQ_of 3 q3 _) (band_of 3 x3 _) (slot_of 3 rfl 0 s0 _)) $$ [X3 S3 D3]
  · isplitr; · iexact HR
    isplitl [X3]; · iexact X3
    isplitl [S3] <;> iassumption
  iintro K3
  iapply (step_copied m K c 0 _ (copyQ_of 0 q0 _) (slot_of 0 rfl 0 s0 _)) $$ [HO C0 K0]
  · isplitr; · iexact HR
    isplitr; · iexact HL
    isplitl [HO]; · iexact HO
    isplitl [C0] <;> iassumption
  iintro ⟨HO, C0, S0⟩
  iapply (step_copied m K c 1 _ (copyQ_of 1 q1 _) (slot_of 1 rfl 0 s0 _)) $$ [HO C1 K1]
  · isplitr; · iexact HR
    isplitr; · iexact HL
    isplitl [HO]; · iexact HO
    isplitl [C1] <;> iassumption
  iintro ⟨HO, C1, S1⟩
  iapply (step_copied m K c 2 _ (copyQ_of 2 q2 _) (slot_of 2 rfl 0 s0 _)) $$ [HO C2 K2]
  · isplitr; · iexact HR
    isplitr; · iexact HL
    isplitl [HO]; · iexact HO
    isplitl [C2] <;> iassumption
  iintro ⟨HO, C2, S2⟩
  iapply (step_copied m K c 3 _ (copyQ_of 3 q3 _) (slot_of 3 rfl 0 s0 _)) $$ [HO C3 K3]
  · isplitr; · iexact HR
    isplitr; · iexact HL
    isplitl [HO]; · iexact HO
    isplitl [C3] <;> iassumption
  iintro ⟨HO, C3, S3⟩
  -- leave is exchanged
  iapply (step_enter m K c (prv c) _ (Fin.ext n1) _ rfl true 0 2 (by revert c; decide) (by revert c; decide) rfl (O₁ c)) $$ [HO E0 E2 Hbp]
  · isplitr; · iexact HR
    isplitl [HO]; · iapply (Entails.of_eq (show Owing (F := F) c (O₀ c) = Owing c (O₁ c + tallyAt (cell (prv c) bar) 0 1) from rfl)); iexact HO
    isplitl [E0]; · iexact E0
    isplitl [E2] <;> iassumption
  iintro HO
  iapply (step_enter m K c (nxt c) _ (Fin.ext n2) _ rfl false 1 3 (by revert c; decide) (by revert c; decide) rfl (Owe c (fun _ => 0) (fun _ => 0))) $$ [HO E1 E3 Hbn]
  · isplitr; · iexact HR
    isplitl [HO]; · iapply (Entails.of_eq (show Owing (F := F) c (O₁ c) = Owing c (Owe c (fun _ => 0) (fun _ => 0) + tallyAt (cell (nxt c) bar) 0 1) from rfl)); iexact HO
    isplitl [E1]; · iexact E1
    isplitl [E3] <;> iassumption
  iintro HO
  iapply (step_entered m K c _ rfl) $$ [HO Hb Hbc]
  · isplitr; · iexact HR
    isplitr; · iexact HL
    isplitl [Hbc]; · iexact Hbc
    isplitl [HO] <;> iassumption
  iintro ⟨HO, Hb, ⟨G1, G3⟩, G0, G2⟩
  ihave HO := (Entails.of_eq (congrArg (fun a => Owes (F := F) c a (fun _ => 0)) (upto_zero 0).symm)) $$ HO
  ihave Ho := (Entails.of_eq (congrArg (outHas m c) (upto_zero 0).symm)) $$ Ho
  -- the four bands go out
  iapply (step_first m K c 0 (i := 0) (j := 1) rfl rfl (Fin.ext n3) (sendQ_of 0 0 p0 _) (recvQ_of 0 1 r0 _) (slot_of 0 rfl 0 s0 _) (slot_of 0 rfl 1 s1 _)) $$ [HO P0 T0 S0 G0]
  · isplitr; · iexact HR
    isplitl [HO]; · iexact HO
    isplitl [P0]; · iexact P0
    isplitl [T0]; · iexact T0
    isplitl [S0] <;> iassumption
  iintro ⟨HO, H0⟩
  iapply (step_first m K c 1 (i := 1) (j := 2) rfl rfl (Fin.ext n4) (sendQ_of 1 0 p1 _) (recvQ_of 1 1 r1 _) (slot_of 1 rfl 0 s0 _) (slot_of 1 rfl 1 s1 _)) $$ [HO P1 T1 S1 G1]
  · isplitr; · iexact HR
    isplitl [HO]; · iexact HO
    isplitl [P1]; · iexact P1
    isplitl [T1]; · iexact T1
    isplitl [S1] <;> iassumption
  iintro ⟨HO, H1⟩
  iapply (step_first m K c 2 (i := 2) (j := 3) rfl rfl (Fin.ext n5) (sendQ_of 2 0 p2 _) (recvQ_of 2 1 r2 _) (slot_of 2 rfl 0 s0 _) (slot_of 2 rfl 1 s1 _)) $$ [HO P2 T2 S2 G2]
  · isplitr; · iexact HR
    isplitl [HO]; · iexact HO
    isplitl [P2]; · iexact P2
    isplitl [T2]; · iexact T2
    isplitl [S2] <;> iassumption
  iintro ⟨HO, H2⟩
  iapply (step_first m K c 3 (i := 3) (j := 4) rfl rfl (Fin.ext n6) (sendQ_of 3 0 p3 _) (recvQ_of 3 1 r3 _) (slot_of 3 rfl 0 s0 _) (slot_of 3 rfl 1 s1 _)) $$ [HO P3 T3 S3 G3]
  · isplitr; · iexact HR
    isplitl [HO]; · iexact HO
    isplitl [P3]; · iexact P3
    isplitl [T3]; · iexact T3
    isplitl [S3] <;> iassumption
  iintro ⟨HO, H3⟩
  -- and are multiplied
  iapply (step_mul m c 0 0 (i := 0) (j := 1) rfl rfl rfl e0 o0 k0_pay6 (fun _ _ => rfl)) $$ [H0 Hw Ho]
  · isplitl [H0]; · iexact H0
    isplitl [Hw] <;> iassumption
  iintro ⟨H0, Hw, Ho⟩
  iapply (step_mul m c 1 0 (i := 1) (j := 2) rfl rfl rfl e0 o1 k0_pay7 (fun _ _ => rfl)) $$ [H1 Hw Ho]
  · isplitl [H1]; · iexact H1
    isplitl [Hw] <;> iassumption
  iintro ⟨H1, Hw, Ho⟩
  iapply (step_mul m c 2 0 (i := 2) (j := 3) rfl rfl rfl e0 o2 k0_pay8 (fun _ _ => rfl)) $$ [H2 Hw Ho]
  · isplitl [H2]; · iexact H2
    isplitl [Hw] <;> iassumption
  iintro ⟨H2, Hw, Ho⟩
  iapply (step_mul m c 3 0 (i := 3) (j := 4) rfl rfl rfl e0 o3 k0_pay1 (fun _ _ => rfl)) $$ [H3 Hw Ho]
  · isplitl [H3]; · iexact H3
    isplitl [Hw] <;> iassumption
  iintro ⟨H3, Hw, Ho⟩
  ihave HO := (Entails.of_eq (congrArg (Owing (F := F) c) (show Owe c (upto 0 4) (fun _ => 0) = Owe c (fun _ => min (0 + 1) 7) (fun _ => min 0 6) by rw [upto_four]; rfl))) $$ HO
  ihave Ho := (Entails.of_eq (congrArg (outHas m c) (upto_four 0))) $$ Ho
  -- the loop
  iapply (exec_loop frame (wpE (defs₀ (F := F)) 𝒱₀ (c : Thread nD τ) none) Set.univ k0_t1_loop.lb k0_t1_loop.ub k0_t1_loop.st k0_t1_ok ⟨⟩ _ (loopInv m K c _ _ _)) $$ [HO H0 H1 H2 H3 Hw Ho]
  · iapply (Entails.of_eq (show Inv m K c 0 = (loopInv m K c _ _ _).inv 0 ⟨⟩ from rfl))
    unfold Inv
    isplitr; · iexact HR
    isplitr; · iexact HL
    isplitl [HO]; · iexact HO
    isplitl [H0 H1 H2 H3]
    · isplitl [H0]; · iexact H0
      isplitl [H1]; · iexact H1
      isplitl [H2] <;> iassumption
    isplitl [Hw] <;> iassumption
  iintro %acc HI
  ihave HI := (Entails.of_eq (show (loopInv m K c _ _ _).inv (Scf.trips k0_t1_loop.lb k0_t1_loop.ub k0_t1_loop.st) acc = Inv m K c 7 by rw [show Scf.trips k0_t1_loop.lb k0_t1_loop.ub k0_t1_loop.st = 7 by decide]; rfl)) $$ HI
  unfold Inv
  icases HI with ⟨-, -, HO, ⟨H0, H1, H2, H3⟩, Hw, Ho⟩
  imod (close_stream m K c 0) $$ [H0 C0] with ⟨Z0, B0⟩
  · isplitr; · iexact HR
    isplitl [H0] <;> iassumption
  imod (close_stream m K c 1) $$ [H1 C1] with ⟨Z1, B1⟩
  · isplitr; · iexact HR
    isplitl [H1] <;> iassumption
  imod (close_stream m K c 2) $$ [H2 C2] with ⟨Z2, B2⟩
  · isplitr; · iexact HR
    isplitl [H2] <;> iassumption
  imod (close_stream m K c 3) $$ [H3 C3] with ⟨Z3, B3⟩
  · isplitr; · iexact HR
    isplitl [H3] <;> iassumption
  imod (close_cell m K c bar 1 (le_refl _)) $$ [Hb] with Zb
  · isplitr; · iexact HR
    iexact Hb
  rw [wp_ret]
  imodintro
  iapply Hk
  unfold Done Zeros Bufs
  isplitl [HO]; · iapply (Entails.of_eq (congrArg (Owing (F := F) c) (Owe_done c (fun _ => le_refl 7) (fun _ => le_refl 6)))); iexact HO
  isplitl [Zb Z0 Z1 Z2 Z3]
  · isplitl [Zb]; · iexact Zb
    isplitl [Z0]; · iexact Z0
    isplitl [Z1]; · iexact Z1
    isplitl [Z2] <;> iassumption
  isplitl [B0 B1 B2 B3]
  · isplitl [B0]; · iexact B0
    isplitl [B1]; · iexact B1
    isplitl [B2] <;> iassumption
  isplitl [Hw] <;> iassumption

end Cert.Rings

end
-- ==== Proof.Ghost.lean ====
/-
# The cells and their duties, dealt

At launch every cell of every device is opened at its first round, and every duty of every round is minted once. The duties
go to the devices that will do them: those of a device's receive cells to the device behind it in the stream, those of its
credit cells to the device ahead, those of its barrier to its two neighbours, the rest to the device itself.
-/
module

public import proofs.«01_k».proof.Proof.Body

@[expose] public section

noncomputable section

namespace Cert.Rings

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (sum_pos_exists add_pos_cases mayWait_of_levAts tallyAt_pos)

variable {F : FTy → Type} [FloatOps F]

local notation "𝕄" => MT nD τ sig ℕ (Elt F) ℕ UU ℕ

variable (m : (ℓ : Loc nD τ sig) → Buf (Elt F) ℓ) (ρ : Dev nD → PrngReg) (K : Dev nD × Role → ℕ)

/-! ## The duties -/

abbrev TokIx : Type := Bool ⊕ (Fin 4 × (Fin 7 ⊕ Fin 7 ⊕ Fin 6 ⊕ Unit))

/-- The duties of a device's cells: the cell, the round, which of the round's. -/
def duty : TokIx → Role × ℕ × Bool
  | .inl b => (bar, 0, b)
  | .inr (st, .inl j) => (rv st j.val, j.val / 2, false)
  | .inr (st, .inr (.inl j)) => (sd st j.val, j.val / 2, false)
  | .inr (st, .inr (.inr (.inl j))) => (cr st, j.val, false)
  | .inr (st, .inr (.inr (.inr _))) => (cp st, 0, false)

theorem duty_injective : Function.Injective duty := by decide +kernel

theorem cell_injective : Function.Injective (fun x : Dev nD × Role => cell x.1 x.2) := by
  rintro ⟨c, R⟩ ⟨c', R'⟩ h
  have h1 : c = c' := congrArg (fun g : GSem nD τ sig => g.1.1) h
  have h2 : R = R' := semOf_injective (congrArg Prod.snd h)
  rw [h1, h2]

abbrev dutyOf (x : Dev nD × TokIx) : GSem nD τ sig × ℕ × Bool := (cell x.1 (duty x.2).1, (duty x.2).2)

theorem dutyOf_injective : Function.Injective dutyOf := by
  rintro ⟨c, t⟩ ⟨c', t'⟩ h
  have h1 := cell_injective (a₁ := (c, (duty t).1)) (a₂ := (c', (duty t').1)) (congrArg Prod.fst h)
  have h2 : t = t' := duty_injective (Prod.ext (congrArg Prod.snd h1) (congrArg (fun x => x.2) h))
  have h3 : c = c' := congrArg Prod.fst h1
  rw [h2, h3]

def ringCells : Finset (GSem nD τ sig) := Finset.univ.map ⟨fun x : Dev nD × Role => cell x.1 x.2, cell_injective⟩
def ringToks : Finset (GSem nD τ sig × ℕ × Bool) := Finset.univ.map ⟨dutyOf, dutyOf_injective⟩

def u₀ : UU := (initOf (Pipeline.cells cfgs cellOf_inj) (Pipeline.launchToks cfgs cellOf_inj), initOf ringCells ringToks)

/-- The duties of a device's own cells. -/
def toks (c : Dev nD) : sProp 𝕄 :=
  iprop((dutyTok ER (cell c bar) 0 false ∗ dutyTok ER (cell c bar) 0 true)
    ∗ bigSep Finset.univ fun st : Fin 4 => iprop(
      (bigSep (Finset.Ico 0 7) fun j => dutyTok ER (cell c (rv st j)) (j / 2) false)
        ∗ (bigSep (Finset.Ico 0 7) fun j => dutyTok ER (cell c (sd st j)) (j / 2) false)
        ∗ (bigSep (Finset.Ico 0 6) fun j => dutyTok ER (cell c (cr st)) j false)
        ∗ dutyTok ER (cell c (cp st)) 0 false))

/-- The duties a device does. -/
def payToks (c : Dev nD) : sProp 𝕄 :=
  iprop((dutyTok ER (cell (nxt c) bar) 0 false ∗ dutyTok ER (cell (prv c) bar) 0 true)
    ∗ bigSep Finset.univ fun st : Fin 4 => iprop(
      (bigSep (Finset.Ico 0 7) fun j => dutyTok ER (cell (fwd st c) (rv st j)) (j / 2) false)
        ∗ (bigSep (Finset.Ico 0 7) fun j => dutyTok ER (cell c (sd st j)) (j / 2) false)
        ∗ (bigSep (Finset.Ico 0 6) fun j => dutyTok ER (cell (back st c) (cr st)) j false)
        ∗ dutyTok ER (cell c (cp st)) 0 false))

omit [FloatOps F] in
theorem bigSep_below (n : ℕ) (Φ : ℕ → sProp 𝕄) : bigSep (Finset.univ : Finset (Fin n)) (fun i => Φ i.val) = bigSep (Finset.Ico 0 n) Φ := by
  rw [show Finset.Ico 0 n = (Finset.univ : Finset (Fin n)).map Fin.valEmbedding by
    ext i
    rw [Finset.mem_Ico, Finset.mem_map]
    exact ⟨fun h => ⟨⟨i, h.2⟩, Finset.mem_univ _, rfl⟩, fun ⟨j, _, hj⟩ => hj ▸ ⟨Nat.zero_le _, j.isLt⟩⟩, bigSep_map]
  rfl

omit [FloatOps F] in
theorem toks_eq (c : Dev nD) :
    bigSep Finset.univ (fun t : TokIx => (dutyTok ER (cell c (duty t).1) (duty t).2.1 (duty t).2.2 : sProp 𝕄)) = toks c := by
  unfold toks
  rw [bigSep_univ_sum, bigSep_univ_eq_bigSepL [false, true] (by decide) (by decide), bigSepL_cons_cons, bigSepL_singleton, bigSep_univ_prod]
  refine congrArg₂ _ rfl (bigSep_congr fun st _ => ?_)
  rw [bigSep_univ_sum, bigSep_univ_sum, bigSep_univ_sum, ← bigSep_below, ← bigSep_below, ← bigSep_below]
  refine congrArg₂ _ rfl (congrArg₂ _ rfl (congrArg₂ _ rfl ?_))
  rw [bigSep_univ_eq_bigSepL [()] (by decide) (by decide), bigSepL_singleton]
  rfl

omit [FloatOps F] in
/-- Every duty goes to the device that does it. -/
theorem toks_around : (bigSep Finset.univ fun c : Dev nD => (toks c : sProp 𝕄)) = bigSep Finset.univ fun c : Dev nD => payToks c := by
  unfold toks payToks
  rw [bigSep_sep', bigSep_sep', bigSep_sep', bigSep_sep',
    bigSep_univ_equiv (ring 0) (fun c : Dev nD => (dutyTok ER (cell c bar) 0 false : sProp 𝕄)),
    bigSep_univ_equiv (ring 1) (fun c : Dev nD => (dutyTok ER (cell c bar) 0 true : sProp 𝕄))]
  refine congrArg₂ _ rfl ?_
  rw [BI.bigSep_univ_comm (fun (c : Dev nD) (st : Fin 4) => _), BI.bigSep_univ_comm (fun (c : Dev nD) (st : Fin 4) => _)]
  refine bigSep_congr fun st _ => ?_
  rw [bigSep_sep', bigSep_sep', bigSep_sep', bigSep_sep', bigSep_sep', bigSep_sep',
    bigSep_univ_equiv (ring st) (fun c : Dev nD => bigSep (Finset.Ico 0 7) fun j => (dutyTok ER (cell c (rv st j)) (j / 2) false : sProp 𝕄)),
    bigSep_univ_equiv (ring st).symm (fun c : Dev nD => bigSep (Finset.Ico 0 6) fun j => (dutyTok ER (cell c (cr st)) j false : sProp 𝕄))]
  rfl

/-! ## The launch element -/

/-- What the launch deals a device, and what it makes of it together with the others. -/
def G (c : Dev nD) : sProp 𝕄 :=
  iprop((bigSep Finset.univ fun R : Role => roundState ER (Rd m) (cell c R) 0)
    ∗ (bigSep Finset.univ fun R : Role => iprop(atPos ER (cell c R) 0 ∅ 0 ∗ reached ER (cell c R) 0)) ∗ toks c)

def G' (c : Dev nD) : sProp 𝕄 := iprop(∃ K, Recs m K ∗ (bigSep Finset.univ fun R : Role => At c R 0) ∗ payToks c)

omit [FloatOps F] in
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun R : Role => Φ (cell c R) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => toks_eq c
  iintro HX
  imod (Rounds.fund ER (Rd m) ringCells ringToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-- The kernel's own semaphores: all the streams'. -/
abbrev osem (x : Fin 4 × Kd) : SemLoc sig := semOf (.inr x)

theorem ownSemFacts : Pipeline.OwnSemFacts cfg0.spec osem := by decide +kernel

omit [FloatOps F] in
theorem gate_eq (c : Dev nD) : (unscopedSems0 c : sProp 𝕄) = semVal (cell c bar) 0 := by
  unfold unscopedSems0; rw [bigSep_eq_bigSepL_of_eq [semOf bar] (by decide) (by decide)]; rfl

omit [FloatOps F] in
/-- The one cell of the barrier, and the streams' cells. -/
theorem roles (Φ : Role → sProp 𝕄) : bigSep Finset.univ Φ = iprop(Φ bar ∗ bigSep Finset.univ fun x : Fin 4 × Kd => Φ (.inr x)) := by
  rw [bigSep_univ_sum, bigSep_univ_eq_bigSepL [()] (by decide) (by decide), bigSepL_singleton]; rfl

omit [FloatOps F] in
theorem sems_eq (c : Dev nD) :
    iprop(Pipeline.ownSems0 (Ix := ℕ) (Name := ℕ) (U := UU) (Lvl := ℕ) (Val := Elt F) (τ := τ) osem c ∗ unscopedSems0 c)
      ⊢ (bigSep Finset.univ fun R : Role => semVal (cell c R) 0 : sProp 𝕄) := by
  rw [gate_eq, roles]
  unfold Pipeline.ownSems0
  iintro ⟨HS, HB⟩
  isplitl [HB]; · iexact HB
  iexact HS

omit [FloatOps F] in
/-- A device's cells opened. -/
theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun R : Role => iprop(∃ κ : ℕ, cellInv ER (Rd m) κ (cell c R)))
          ∗ (bigSep Finset.univ fun R : Role => iprop(atPos ER (cell c R) 0 ∅ 0 ∗ reached ER (cell c R) 0)) ∗ toks c) := by
  unfold G
  iintro ⟨Hos, Hus, Hst, Hat, Htok⟩
  ihave Hv := (sems_eq (F := F) c) $$ [Hos Hus]
  · isplitl [Hos] <;> iassumption
  imod (show iprop((bigSep Finset.univ fun R : Role => semVal (cell c R) 0) ∗ bigSep Finset.univ fun R : Role => roundState ER (Rd m) (cell c R) 0)
      ⊢ (|={Set.univ}=> bigSep Finset.univ fun R => iprop(∃ κ : ℕ, cellInv ER (Rd m) κ (cell c R)) : sProp 𝕄) from by
        rw [← bigSep_sep']
        exact (bigSep_mono fun R _ => (Rounds.body_intro ER (Rd m) (cell c R)).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- A persistent fact stands beside every member of a family. -/
theorem bigSep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
/-- All devices' cells known to all, and the duties dealt. -/
theorem share_out :
    (bigSep Finset.univ fun c : Dev nD => iprop((bigSep Finset.univ fun R : Role => iprop(∃ κ : ℕ, cellInv ER (Rd m) κ (cell c R)))
          ∗ (bigSep Finset.univ fun R : Role => iprop(atPos ER (cell c R) 0 ∅ 0 ∗ reached ER (cell c R) 0)) ∗ toks c) : sProp 𝕄)
      ⊢ bigSep Finset.univ (G' m) := by
  rw [bigSep_sep', bigSep_sep', toks_around, ← bigSep_univ_prod (fun x : Dev nD × Role => iprop(∃ κ : ℕ, cellInv ER (Rd m) κ (cell x.1 x.2))),
    bigSep_congr (s := Finset.univ) (fun (c : Dev nD) _ => bigSep_sep' Finset.univ (fun R : Role => (atPos ER (cell c R) 0 ∅ 0 : sProp 𝕄)) (fun R => reached ER (cell c R) 0)),
    bigSep_sep', ← bigSep_univ_prod (fun x : Dev nD × Role => (reached ER (cell x.1 x.2) 0 : sProp 𝕄))]
  iintro ⟨HI, ⟨Hat, #HR⟩, Htok⟩
  ihave HK := (BI.bigSep_exists_pi Finset.univ (fun (x : Dev nD × Role) (κ : ℕ) => (cellInv ER (Rd m) κ (cell x.1 x.2) : sProp 𝕄))) $$ HI
  icases HK with ⟨%K, #HI⟩
  iapply (bigSep_beside (R := Recs m K) (Φ := fun c => iprop((bigSep Finset.univ fun R : Role => atPos ER (cell c R) 0 ∅ 0) ∗ payToks c)) fun c _ => by
    unfold G'
    iintro ⟨#HR, Hat, Htok⟩
    iexists K
    isplitr; · iexact HR
    isplitl [Hat]
    · iapply (bigSep_beside (R := Recs m K) (Φ := fun R : Role => atPos ER (cell c R) 0 ∅ 0) fun R _ => by
        unfold At
        iintro ⟨#HR, Hat⟩
        ihave Hi := (Recs_at m K c R) $$ HR
        icases Hi with ⟨-, #Hr⟩
        isplitl [Hat]; · iexact Hat
        iexact Hr)
      isplitr; · iexact HR
      iexact Hat
    iexact Htok)
  isplitr
  · unfold Recs
    rw [bigSep_sep']
    isplitr; · iexact HI
    iexact HR
  · rw [bigSep_sep']
    isplitl [Hat] <;> iassumption

omit [FloatOps F] in
/-- All devices at once, from their counters at zero. -/
theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (share_out m))

/-! ## The launch credit -/

/-- What a device owes in one stream at launch. -/
def owing (st : Fin 4) (d : Dev nD) : CellTallies nD τ sig ℕ :=
  (∑ j ∈ Finset.Ico 0 7, tallyAt (cell (fwd st d) (rv st j)) j N) + ∑ j ∈ Finset.Ico 0 6, tallyAt (cell (back st d) (cr st)) j 1

omit [FloatOps F] in
/-- What a stream owes a device at launch: all it will receive, all the leave it will get. -/
theorem stream_creds (c : Dev nD) (st : Fin 4) :
    (Pipeline.launchCred (owing st) c : sProp 𝕄) ⊢ iprop(
        (bigSep (Finset.Ico 0 7) fun j => cred (tallyAt (cell c (rv st j)) j N)) ∗ bigSep (Finset.Ico 0 6) fun j => cred (tallyAt (cell c (cr st)) j 1)) := by
  rw [show owing st = fun d => (∑ j ∈ Finset.Ico 0 7, (fun (j : ℕ) (d : Dev nD) => tallyAt (cell (fwd st d) (rv st j)) j N) j d)
      + ∑ j ∈ Finset.Ico 0 6, (fun (j : ℕ) (d : Dev nD) => tallyAt (cell (back st d) (cr st)) j 1) j d from rfl,
    Pipeline.launchCred_add, Pipeline.launchCred_sum, Pipeline.launchCred_sum]
  exact BIClass.sep_mono (bigSep_mono fun j _ => Pipeline.launchCred_tallyAt (semOf (rv st j)) (fwd st) (back st) (fwd_back st) (back_fwd st) j N c)
    (bigSep_mono fun j _ => Pipeline.launchCred_tallyAt (semOf (cr st)) (back st) (fwd st) (back_fwd st) (fwd_back st) j 1 c)

omit [FloatOps F] in
/-- What the others owe a device at launch: the streams' dues, and both units of its barrier. -/
theorem creds (c : Dev nD) :
    (Pipeline.launchCred O₀ c : sProp 𝕄) ⊢ iprop((bigSep Finset.univ fun st : Fin 4 => iprop(
        (bigSep (Finset.Ico 0 7) fun j => cred (tallyAt (cell c (rv st j)) j N)) ∗ bigSep (Finset.Ico 0 6) fun j => cred (tallyAt (cell c (cr st)) j 1)))
      ∗ cred (tallyAt (cell c bar) 0 2)) := by
  rw [show (O₀ : Dev nD → CellTallies nD τ sig ℕ) = fun d => ((∑ st ∈ (Finset.univ : Finset (Fin 4)), owing st d)
      + tallyAt (cell (nxt d) bar) 0 1) + tallyAt (cell (prv d) bar) 0 1 from rfl,
    Pipeline.launchCred_add, Pipeline.launchCred_add, Pipeline.launchCred_sum,
    show (tallyAt (cell c bar) 0 2 : CellTallies nD τ sig ℕ) = tallyAt (cell c bar) 0 1 + tallyAt (cell c bar) 0 1 from (tallyAt_add _ _ 1 1).symm]
  have hs : (bigSep Finset.univ fun st : Fin 4 => (Pipeline.launchCred (owing st) c : sProp 𝕄)) ⊢ _ := bigSep_mono fun st _ => stream_creds c st
  iintro ⟨⟨HS, Hn⟩, Hp⟩
  isplitl [HS]
  · iapply hs; iexact HS
  iapply (cred_add _ _).2
  isplitl [Hn]
  · iapply (Pipeline.launchCred_tallyAt (semOf bar) nxt prv (fwd_back 0) (back_fwd 0) 0 1 c); iexact Hn
  · iapply (Pipeline.launchCred_tallyAt (semOf bar) prv nxt (back_fwd 0) (fwd_back 0) 0 1 c); iexact Hp

end Cert.Rings

end
-- ==== Proof.Run.lean ====
/-
# The run of the program

What a device holds when it launches and when it returns, the kernel's body in that form, and from the library's launch
theorem the run of the whole program on eight devices: it ends, the arguments unchanged, the result at each device the
products of all the bands with that device's columns, and every counter at zero.
-/
module

public import proofs.«01_k».proof.Proof.Ghost
public import proofs.«01_k».proof.Proof.Gen.KernelIdeal.Points
public import Idealize.ShloMosaic.Lib.Pipeline.ValueKit.Geometry
public import Idealize.ShloMosaic.Lib.Pipeline.CollectiveSegs

@[expose] public section

noncomputable section

namespace Cert.Rings

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation sum_pos_exists add_pos_cases mayWait_of_levAts tallyAt_pos)

variable {F : FTy → Type} [FloatOps F]

local notation "𝕄" => MT nD τ sig ℕ (Elt F) ℕ UU ℕ

variable (m : (ℓ : Loc nD τ sig) → Buf (Elt F) ℓ) (ρ : Dev nD → PrngReg) (K : Dev nD × Role → ℕ)

/-! ## The result as one array -/

/-- Every row of the result belongs to a band. -/
theorem out_cover (x : S8192x512.Idx) : ∃ p : Dev nD × Fin 4 × S256x512.Idx, (outR p.1 p.2.1).emb p.2.2 = x := by
  have h0 : (x 0).val < 8192 := (x 0).isLt
  obtain ⟨st, lo, hi⟩ : ∃ st : Fin 4, row0 st ≤ (x 0).val % 1024 ∧ (x 0).val % 1024 < row0 st + 256 := by
    have : (x 0).val % 1024 < 1024 := Nat.mod_lt _ (by decide)
    by_cases h1 : (x 0).val % 1024 < 256
    · exact ⟨0, by simp only [row0]; omega, by simp only [row0]; omega⟩
    by_cases h2 : (x 0).val % 1024 < 512
    · exact ⟨2, by simp only [row0]; omega, by simp only [row0]; omega⟩
    by_cases h3 : (x 0).val % 1024 < 768
    · exact ⟨1, by simp only [row0]; omega, by simp only [row0]; omega⟩
    · exact ⟨3, by simp only [row0]; omega, by simp only [row0]; omega⟩
  refine ⟨(⟨(x 0).val / 1024, by show _ < 8; omega⟩, st, fun
    | ⟨0, _⟩ => ⟨(x 0).val % 1024 - row0 st, by show _ < 256; omega⟩
    | ⟨1, _⟩ => x 1), ?_⟩
  funext a
  apply Fin.ext
  match a with
  | ⟨0, _⟩ => show (1024 * ((x 0).val / 1024) + row0 st) + 1 * ((x 0).val % 1024 - row0 st) = (x 0).val; omega
  | ⟨1, _⟩ => show 0 + 1 * (x 1).val = (x 1).val; omega

/-- The result a device stores. -/
def outAt (c : Dev nD) : S8192x512.Idx → Elt F .f32 := fun x => prod m c (out_cover x).choose.1 (out_cover x).choose.2.1 (out_cover x).choose.2.2

/-- It is the products, band by band. -/
theorem outAt_band (c : Dev nD) (x : S8192x512.Idx) : ∃ (o : Dev nD) (st : Fin 4) (y : S256x512.Idx), (outR o st).emb y = x ∧ outAt m c x = prod m c o st y :=
  ⟨_, _, _, (out_cover x).choose_spec, rfl⟩

/-- A buffer at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem outHas_all (c : Dev nD) : outHas m c (fun _ => 8) ⊢ (stg c cc0_stg1_0 (outAt m c) : sProp 𝕄) := by
  unfold outHas
  iintro ⟨%f, %hf, H⟩
  iexists f
  isplitr
  · ipureintro
    funext x
    obtain ⟨o, st, y, rfl, h⟩ := outAt_band m c x
    obtain ⟨n, hn, rfl⟩ := org_all st c o
    rw [h]
    exact congrFun (hf st n hn) y
  iexact H

theorem outHas_none (c : Dev nD) (X : Buf (Elt F) ((c : Thread nD τ).loc cc0_stg1_0)) : iprop(((c : Thread nD τ).loc cc0_stg1_0) ↦{fullShare} X) ⊢ (outHas m c (fun _ => 0) : sProp 𝕄) := by
  unfold outHas
  iintro H
  iexists X
  isplitr
  · ipureintro; intro st h hh; exact absurd hh (Nat.not_lt_zero _)
  iexact H

/-! ## Before and after the one grid point -/

def start (c : Dev nD) : sProp 𝕄 := iprop(∃ K, Recs m K ∗ levAts L lv ∗ (Pre m c 0 ∗ Pre m c 1 ∗ Pre m c 2 ∗ Pre m c 3) ∗ Gate c)
def Φ₀ (c : Dev nD) : sProp 𝕄 := iprop(start m c ∗ Bufs c)
def Φ₁ (c : Dev nD) : sProp 𝕄 := iprop(Zeros c ∗ Bufs c)

def s₀ : MemSt nD τ sig (Elt F) := ⟨m, fun _ => 0, ρ⟩

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => wstg m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄) = stg c b X := by
  unfold owns; simp only [Memref.view_whole, View.read_whole, View.set_whole]

def bodyPre (c : Dev nD) : sProp 𝕄 :=
  iprop(Φ₀ m c ∗ (dats m ρ 0 c).owesAt 0 t0_0.castSucc
    ∗ (∃ d, stg c cc0_stg0_0 ((dats m ρ 0 c).before (0 : Fin 2) t0_0 d))
    ∗ (∃ d, stg c cc0_stg1_0 ((dats m ρ 0 c).before (1 : Fin 2) t0_0 d)))

def bodyPost (c : Dev nD) : sProp 𝕄 :=
  iprop(Φ₁ c ∗ (dats m ρ 0 c).owesAt 0 t0_0.succ ∗ stg c cc0_stg0_0 (wstg m c) ∗ stg c cc0_stg1_0 (outAt m c))

theorem done_post (c : Dev nD) : Done m c ⊢ (bodyPost m ρ c : sProp 𝕄) := by
  unfold Done bodyPost Φ₁ Dat.owesAt Pipeline.owesWithin Owing
  rw [show (dats m ρ 0 c).owed t0_0.succ = 0 from rfl]
  iintro ⟨⟨%W, HO⟩, HZ, HB, Hw, Ho⟩
  isplitl [HZ HB]
  · isplitl [HZ] <;> iassumption
  isplitl [HO]
  · iexists W
    isplitr
    · ipureintro; exact fun _ _ => Or.inl trivial
    iexact HO
  isplitl [Hw]
  · iexists (wstg m c); isplitr; · (ipureintro; rfl)
    unfold wHas; iexact Hw
  iapply (outHas_all m c); iexact Ho

/-- The kernel's body in the form the launch asks it. -/
theorem body_obligation (c : Dev nD) : BodyObligation (dats (F := F) m ρ 0 c) (defs₀ (F := F)) 𝒱₀ 0 Set.univ := fun t => by
  rw [fin_N0 t]
  rw [bigSep_W0, bigSep_W0]
  simp only [owns_whole_eq]
  show bodyPre m ρ c ⊢ wp frame (wpE (defs₀ (F := F)) 𝒱₀ c none) Set.univ
    (cc0_body (F := F) (Memref.whole main_arg0) (Memref.isWhole_whole _) wM (Memref.isWhole_whole _) oM (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) cc0_scratch4 cc0_scratch5 cc0_scratch6 cc0_scratch7) (fun _ => bodyPost m ρ c)
  unfold bodyPre Φ₀ start Dat.owesAt Pipeline.owesWithin
  iintro ⟨⟨⟨%K, HR, HL, HP, HG⟩, HB⟩, ⟨%W, %hW, HO⟩, ⟨%d, %g, %hg, Hw⟩, ⟨%d', %g', %hg', Ho⟩⟩
  have hx : g = wstg m c := by
    rw [hg]; unfold Dat.before; rw [if_pos (fetch0_0 t0_0)]; rfl
  subst hx
  iapply (run_body m K c fun _ => bodyPost m ρ c)
  isplitl [HR]; · iexact HR
  isplitl [HL]; · iexact HL
  isplitl [HP]; · iexact HP
  isplitl [HG]; · iexact HG
  isplitl [HB]; · iexact HB
  isplitl [HO]
  · unfold Owing; iexists W; iexact HO
  isplitl [Hw]; · unfold wHas; iexact Hw
  isplitl [Ho]; · iapply (outHas_none m c g'); iexact Ho
  iintro HD
  iapply (done_post m ρ c); iexact HD

/-! ## What the launch asks -/

theorem share_eq (c : Dev nD) (w : Fin cfg0.W) : (dats m ρ 0 c).share w = fullShare := by unfold Dat.share; split <;> rfl

theorem xband_sub (st : Fin 4) : (xband st).view.set ⊆ (Finset.univ : Finset S1024x8192.Idx) := Finset.subset_univ _

omit [FloatOps F] in
theorem src_of (c : Dev nD) (st : Fin 4) : iprop(((c : Thread nD τ).loc main_arg0) ↦{quarter st} (m ((c : Thread nD τ).loc main_arg0))) ⊢ (srcHas m c st : sProp 𝕄) := by
  unfold srcHas
  iintro H
  ihave H := (pointsTo_split_subset (Finset.subset_univ (xband st).view.set)).1 $$ H
  icases H with ⟨H, -⟩
  iexact H

/-- Half of a device's `x`, to be read by the four copies. -/
theorem sources (c : Dev nD) : iprop(((c : Thread nD τ).loc main_arg0) ↦{fullShare.right} (m ((c : Thread nD τ).loc main_arg0)))
    ⊢ (iprop(srcHas m c 0 ∗ srcHas m c 1 ∗ srcHas m c 2 ∗ srcHas m c 3) : sProp 𝕄) := by
  iintro H
  ihave H := (pointsTo_share (PosShare.mem_left_op_right fullShare.right)).1 $$ H
  icases H with ⟨Hl, Hr⟩
  ihave H := (pointsTo_share (PosShare.mem_left_op_right fullShare.right.left)).1 $$ Hl
  icases H with ⟨H0, H1⟩
  ihave H := (pointsTo_share (PosShare.mem_left_op_right fullShare.right.right)).1 $$ Hr
  icases H with ⟨H2, H3⟩
  isplitl [H0]; · iapply (src_of m c 0); iexact H0
  isplitl [H1]; · iapply (src_of m c 1); iexact H1
  isplitl [H2]; · iapply (src_of m c 2); iexact H2
  iapply (src_of m c 3); iexact H3

/-- What a stream starts from, put together. -/
theorem pre_of (c : Dev nD) (st : Fin 4) :
    iprop((bigSep Finset.univ fun k : Kd => At c (.inr (st, k)) 0)
      ∗ ((bigSep (Finset.Ico 0 7) fun j => dutyTok ER (cell (fwd st c) (rv st j)) (j / 2) false)
        ∗ (bigSep (Finset.Ico 0 7) fun j => dutyTok ER (cell c (sd st j)) (j / 2) false)
        ∗ (bigSep (Finset.Ico 0 6) fun j => dutyTok ER (cell (back st c) (cr st)) j false)
        ∗ dutyTok ER (cell c (cp st)) 0 false)
      ∗ ((bigSep (Finset.Ico 0 7) fun j => cred (tallyAt (cell c (rv st j)) j N)) ∗ bigSep (Finset.Ico 0 6) fun j => cred (tallyAt (cell c (cr st)) j 1))
      ∗ srcHas m c st) ⊢ (Pre m c st : sProp 𝕄) := by
  unfold Pre Pos Tok
  rw [bigSep_univ_eq_bigSepL Kd.all (by decide) (by decide)]
  show iprop((At c (.inr (st, .recv 0)) 0 ∗ At c (.inr (st, .recv 1)) 0 ∗ At c (.inr (st, .send 0)) 0 ∗ At c (.inr (st, .send 1)) 0 ∗ At c (cr st) 0 ∗ At c (cp st) 0) ∗ _) ⊢ _
  iintro ⟨⟨A0, A1, B0, B1, E, C⟩, ⟨T1, T2, T3, T4⟩, ⟨C1, C2⟩, HS⟩
  isplitl [A0 A1 B0 B1 E]
  · isplitl [A1]; · iexact A1
    isplitl [A0]; · iexact A0
    isplitl [B0]; · iexact B0
    isplitl [B1]; · iexact B1
    iexact E
  isplitl [T1 T2 T3 C1 C2]
  · isplitl [T1 T2]
    · unfold hopTok; rw [bigSep_sep']
      isplitl [T1] <;> iassumption
    isplitl [T3]; · iexact T3
    isplitl [C1]; · iexact C1
    iexact C2
  isplitl [C]; · iexact C
  isplitl [T4]; · iexact T4
  iexact HS

omit [FloatOps F] in
theorem streams (Φ : Fin 4 → sProp 𝕄) : bigSep Finset.univ Φ = iprop(Φ 0 ∗ Φ 1 ∗ Φ 2 ∗ Φ 3) := by
  rw [bigSep_univ_eq_bigSepL [0, 1, 2, 3] (by decide) (by decide)]; rfl

/-- A device's half of `x` that it keeps. -/
def kept (c : Dev nD) : sProp 𝕄 := ((c : Thread nD τ).loc main_arg0) ↦{fullShare.left} (m ((c : Thread nD τ).loc main_arg0))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ kept m c) := by
  rw [Pipeline.unscopedRestP_none, unscopedRest0_eq]
  unfold G'
  iintro ⟨Hx, HL, Hc, -, ⟨%K, HR, HA, HT⟩⟩
  ihave Hc := (creds (F := F) c) $$ Hc
  icases Hc with ⟨Hc, Hcb⟩
  ihave Hx := (pointsTo_share (PosShare.mem_left_op_right fullShare)).1 $$ Hx
  icases Hx with ⟨Hk, Hx⟩
  ihave Hx := (sources m c) $$ Hx
  icases Hx with ⟨X0, X1, X2, X3⟩
  ihave Hc := (Entails.of_eq (streams _)) $$ Hc
  icases Hc with ⟨C0, C1, C2, C3⟩
  unfold payToks
  icases HT with ⟨⟨Tn, Tp⟩, HT⟩
  ihave HT := (Entails.of_eq (streams _)) $$ HT
  icases HT with ⟨T0, T1, T2, T3⟩
  ihave HA := (Entails.of_eq (roles fun R : Role => At c R 0)) $$ HA
  icases HA with ⟨Ab, HA⟩
  ihave HA := (Entails.of_eq ((bigSep_univ_prod (fun x : Fin 4 × Kd => At c (.inr x) 0)).trans (streams _))) $$ HA
  icases HA with ⟨A0, A1, A2, A3⟩
  imodintro
  isplitr [Hk]
  · unfold start
    iexists K
    isplitl [HR]; · iexact HR
    isplitl [HL]; · iexact HL
    isplitr [Ab Tn Tp Hcb]
    · isplitl [A0 T0 C0 X0]
      · iapply (pre_of m c 0)
        isplitl [A0]; · iexact A0
        isplitl [T0]; · iexact T0
        isplitl [C0]; · iexact C0
        iexact X0
      isplitl [A1 T1 C1 X1]
      · iapply (pre_of m c 1)
        isplitl [A1]; · iexact A1
        isplitl [T1]; · iexact T1
        isplitl [C1]; · iexact C1
        iexact X1
      isplitl [A2 T2 C2 X2]
      · iapply (pre_of m c 2)
        isplitl [A2]; · iexact A2
        isplitl [T2]; · iexact T2
        isplitl [C2]; · iexact C2
        iexact X2
      · iapply (pre_of m c 3)
        isplitl [A3]; · iexact A3
        isplitl [T3]; · iexact T3
        isplitl [C3]; · iexact C3
        iexact X3
    · unfold Gate
      isplitl [Ab]; · iexact Ab
      isplitl [Tp]; · iexact Tp
      isplitl [Tn]; · iexact Tn
      iexact Hcb
  · unfold kept; iexact Hk

omit [FloatOps F] in
theorem bufs_eq (c : Dev nD) : (Pipeline.scopedRest (Ix := ℕ) (Name := ℕ) (U := UU) (Lvl := ℕ) (Val := Elt F) cfg0.spec c : sProp 𝕄) = Bufs c := by
  rw [scopedRest0_eq]
  unfold Bufs bufAny
  rw [show (bufM 0).view.set = Finset.univ from View.set_whole _, show (bufM 1).view.set = Finset.univ from View.set_whole _,
    show (bufM 2).view.set = Finset.univ from View.set_whole _, show (bufM 3).view.set = Finset.univ from View.set_whole _]
  rfl

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, bufs_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, bufs_eq, gate_eq]
  unfold Φ₁ Zeros Pipeline.ownSems0
  rw [bigSep_univ_prod, streams]
  iintro ⟨⟨Hb, H0, H1, H2, H3⟩, Hr⟩
  isplitl [Hb]; · iexact Hb
  isplitl [H0 H1 H2 H3]
  · unfold zeros
    isplitl [H0]; · iexact H0
    isplitl [H1]; · iexact H1
    isplitl [H2]; · iexact H2
    iexact H3
  iexact Hr

theorem waits (c : Dev nD) : (levAts L lv : sProp 𝕄) ⊢ Pipeline.cellsWaits cfgs (dats m ρ) 0 0 c :=
  Pipeline.cellsWaits_intro cfgs (dats m ρ) 0 0 c fun w s t => by
    rcases t with ⟨_ | _, ht⟩
    · exact mayWait_start c _ (by fin_cases w <;> fin_cases s <;> rfl)
    · show _ ⊢ MayWait _ _ _ 0
      rw [MayWait_zero]
      iintro -
      iempintro

/-! ## The run -/

theorem final_w (c : Dev nD) : (dats (F := F) m ρ 0 c).arrAt (0 : Fin 2) cfg0.N = m ((c : Thread nD τ).loc main_arg1) :=
  (dats (F := F) m ρ 0 c).arrAt_in (0 : Fin 2) rfl _

theorem final_out (c : Dev nD) : (dats (F := F) m ρ 0 c).arrAt (1 : Fin 2) cfg0.N = outAt m c := by
  exact (dats m ρ 0 c).arrAt_eq_of_after_last 1 t0_0 (by decide +kernel) _ fun j => rfl

/-- What a final state is. -/
def Ends (s : MemSt nD τ sig (Elt F)) : Prop :=
  ∀ c : Dev nD, s.mem ((c : Thread nD τ).loc main_arg0) = m ((c : Thread nD τ).loc main_arg0)
    ∧ s.mem ((c : Thread nD τ).loc main_arg1) = m ((c : Thread nD τ).loc main_arg1) ∧ s.mem ((c : Thread nD τ).loc main_v1) = outAt m c

theorem last_read (c : Dev nD) (s' : Phys nD τ sig (Elt F)) :
    iprop(unscopedSems0 c ∗ kept m c ∗ SI s') ⊢ |={Set.univ}=> iprop(⌜s'.mem.mem ((c : Thread nD τ).loc main_arg0) = m ((c : Thread nD τ).loc main_arg0)
      ∧ ∀ sm : SemLoc sig, sm.isScoped .tc = false → s'.mem.sem ((c.tc : Thread nD τ), sm) = 0⌝ ∗ SI s') := by
  unfold kept
  iintro ⟨Hu, Hk, HS⟩
  ihave %hx := (SI_pointsTo_agree (ℓ := (c : Thread nD τ).loc main_arg0)) $$ [HS Hk]
  · isplitl [HS] <;> iassumption
  imod (Pipeline.unscopedSems0_read (X := unscopedSems0 c) (c := c) fupd_intro s') $$ [Hu HS] with ⟨%hs, HS⟩
  · isplitl [Hu] <;> iassumption
  imodintro
  isplitr
  · ipureintro; exact ⟨funext fun i => hx i (Finset.mem_univ i), hs⟩
  iexact HS

/-- From any memory with zero counters: every weakly fair execution of the program on the eight devices ends, with the
    arguments unchanged, the result the products, and every counter at zero. -/
theorem run_main : θ_run defs (onTc (τ := τ) (main (F := F))) (s₀ m ρ) (fun r => Ends m r.2 ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := kept m)
    (hX := start_intro m ρ) (hin := phi0_intro m ρ) (hout := phi1_exit m ρ)
    (QY := fun c s => s.mem ((c : Thread nD τ).loc main_arg0) = m ((c : Thread nD τ).loc main_arg0)
      ∧ ∀ sm : SemLoc sig, sm.isScoped .tc = false → s.sem ((c.tc : Thread nD τ), sm) = 0)
    (hY := last_read m)
    (hQ := fun _ h hs => ⟨fun c => ⟨(h c).2.2.1, ((h c).1 (0 : Fin 2)).trans (final_w m ρ c), ((h c).1 (1 : Fin 2)).trans (final_out m ρ c)⟩,
      sem_eq_zero hs fun c => (h c).2.2.2⟩)

end Cert.Rings

end
-- ==== Proof.Value.lean ====
/-
# The products are the whole matrix product

In exact arithmetic, where device `c` holds block `c` of the rows of `X` and of the columns of `W`, what it stores is
block `c` of the columns of `X · W`, the reference's result: an entry of a band's product is the sum over the contracted
position of the entry's row of `X` times its column of `W`, whichever device the band came from.
-/
module

public import proofs.«01_k».proof.Proof.Run
public import proofs.«01_k».proof.Proof.Gen.ReferenceIdeal.Run
public import Idealize.ShloMosaic.Lib.Layout
public import Idealize.ShloMosaic.Lib.MatmulPlain
public import Idealize.ShloMosaic.Lib.StackMember

@[expose] public section

noncomputable section

namespace Cert.Rings

open Cert.KernelIdeal Cert.KernelIdeal.Gen
open Idealize.ShloMosaic Idealize.ShloMosaic.TcCoe Idealize.ShloMosaic.ValueIdx
open scoped BigOperators

/-- A product of a band, at an entry. -/
theorem dotv_apply (x : Vec Ideal S256x8192 .bf16) (w : Vec Ideal S8192x512 .bf16) (y : S256x512.Idx) :
    dotv x w y = ∑ k : Fin 8192, x (ix2 (y 0) k) * w (ix2 k (y 1)) := by
  unfold dotv
  rw [shapeCast_self]
  refine (congrArg _ (eq_ix2 y)).trans ?_
  refine (Ideal.matmul_plain_apply (M := 256) (K := 8192) (N := 512) none x w _ (y 0) (y 1)).trans ?_
  rw [show (constant (F := Ideal) S256x512 .f32 0x00000000#32) (ix2 (y 0) (y 1)) = 0 from Ideal.ofBits_zero_f32, zero_add]

/-- The reference's result. -/
def whole (X : FVec Ideal ⟨2, ![8192, 8192]⟩ .bf16) (W : FVec Ideal ⟨2, ![8192, 4096]⟩ .bf16) : FVec Ideal ⟨2, ![8192, 4096]⟩ .f32 :=
  extf (F := Ideal) (s := ⟨2, ![8192, 4096]⟩) .f32 (truncf .bf16
    (Host.dotGeneral (φ₁ := .bf16) (φ₂ := .bf16) Cert.ReferenceIdeal.dot_S8192x8192_S8192x4096_S8192x4096_1_0_0_1_n_n none X W)
    Cert.ReferenceIdeal.Facts₀.bitsLt_bf16_f32) Cert.ReferenceIdeal.Facts₀.bitsLt_bf16_f32

/-- The reference's result, at an entry. -/
theorem whole_apply (X : FVec Ideal ⟨2, ![8192, 8192]⟩ .bf16) (W : FVec Ideal ⟨2, ![8192, 4096]⟩ .bf16) (i : (⟨2, ![8192, 4096]⟩ : Shape).Idx) :
    whole X W i = ∑ k : Fin 8192, X (ix2 (i 0) k) * W (ix2 k (i 1)) := by
  refine (congrArg (whole X W) (eq_ix2 i)).trans ?_
  exact StackMember.dotGeneral_plain_apply (m := 8192) (k := 8192) (n := 4096) (φ₁ := .bf16) (φ₂ := .bf16) none X W (i 0) (i 1)

variable (m : (ℓ : Loc nD τ sig) → Buf (Elt Ideal) ℓ)

/-- What a product reads of `w` is the device's columns of it, whole. -/
theorem w_read (c : Dev nD) : wM.view.readAt (Elt Ideal) wR.toLoadRect (wstg m c) = m ((c : Thread nD τ).loc main_arg1) := by
  have hz : (fun a => (win0_0.index (0 : Fin 1)) a * main_arg1.ty.shape.size a) = fun _ => 0 := funext fun a => by fin_cases a <;> decide
  refine (Memref.readAt_unit_zero (Elt Ideal) cc0_stg0_0 (funext fun a => by fin_cases a <;> rfl) w_inb (wstg m c)).trans ?_
  exact Memref.read_access_unit_zero (Elt Ideal) main_arg1 hz (fun a => by fin_cases a <;> decide) _

/-- What a device stores is its block of the whole product. -/
theorem outAt_whole (X : (⟨2, ![8192, 8192]⟩ : Shape).Idx → Elt Ideal .bf16) (W : (⟨2, ![8192, 4096]⟩ : Shape).Idx → Elt Ideal .bf16)
    (hx : ∀ c : Dev nD, m ((c : Thread nD τ).loc main_arg0) = Layout.block ⟨2, ![1024, 8192]⟩ ⟨2, ![8192, 8192]⟩ 0 8 c X)
    (hw : ∀ c : Dev nD, m ((c : Thread nD τ).loc main_arg1) = Layout.block ⟨2, ![8192, 512]⟩ ⟨2, ![8192, 4096]⟩ 1 8 c W) (c : Dev nD) :
    outAt m c = Layout.block ⟨2, ![8192, 512]⟩ ⟨2, ![8192, 4096]⟩ 1 8 c (whole X W) := by
  funext j
  obtain ⟨o, st, y, rfl, h⟩ := outAt_band m c j
  rw [h, Layout.block_apply, whole_apply]
  unfold prod
  rw [dotv_apply]
  refine Finset.sum_congr rfl fun k _ => congrArg₂ _ ?_ ?_
  · show m ((o : Thread nD τ).loc main_arg0) ((Rect.unit (s := S1024x8192) ![row0 st, 0] S256x8192.size (xband_inb st)).emb (ix2 (y 0) k)) = _
    rw [hx o, Layout.block_apply]
    refine congrArg X (funext fun a => ?_)
    apply Fin.ext
    match a with
    | ⟨0, _⟩ => show o.val * 1024 + (row0 st + 1 * (y 0).val) = (1024 * o.val + row0 st) + 1 * (y 0).val; omega
    | ⟨1, _⟩ => show 0 + 1 * k.val = k.val; omega
  · rw [w_read, hw c, Layout.block_apply]
    refine congrArg W (funext fun a => ?_)
    apply Fin.ext
    match a with
    | ⟨0, _⟩ => show k.val = k.val; rfl
    | ⟨1, _⟩ => show c.val * 512 + (y 1).val = c.val * 512 + (0 + 1 * (y 1).val); omega

end Cert.Rings

end
-- ==== Proof.lean ====
/-
# The certificate

A program's run (`Cert.Rings.run_main`, Proof/Run.lean) is proved at every arithmetic; it is read here at the bit-exact
one for the program as written and at the exact one for its idealization, whose text is the same. The reference's run is
its three host operations, and it declares no semaphore. The two results are compared in Proof/Value.lean.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Lib.Quiescent

@[expose] public section

noncomputable section

namespace Cert.Proof

open Idealize.ShloMosaic Idealize.ShloMosaic.TcCoe Idealize.SL.Sem Cert.Rings

/-- The two programs call the same body, -/
theorem bodies_eq : Cert.Kernel.defs₀ (F := Bits) = Cert.KernelIdeal.defs₀ (F := Bits) := by
  unfold Cert.Kernel.defs₀ Cert.KernelIdeal.defs₀
  refine congrArg Defs.onTc (funext fun b => funext fun x => ?_)
  match b, x with
  | 0, (t, s) => rfl

/-- so they run alike. -/
theorem runs_eq : θ_run (Cert.Kernel.defs (F := Bits)) (onTc (τ := Cert.Kernel.τ) (Cert.Kernel.main (F := Bits)))
    = θ_run (Cert.KernelIdeal.defs (F := Bits)) (onTc (τ := Cert.KernelIdeal.τ) (Cert.KernelIdeal.main (F := Bits))) :=
  congrArg (fun d => θ_run (Pipeline.defs (Cert.Kernel.pcfgs (F := Bits)) d) (onTc (τ := Cert.Kernel.τ) (Cert.Kernel.main (F := Bits)))) bodies_eq

/-- The kernel as written: it ends, its arguments unchanged, its semaphores at rest. -/
theorem frame_kernel : Cert.quiescent_Kernel := fun m ρ _ => by
  rw [runs_eq]
  exact (θ_run Cert.KernelIdeal.defs (onTc Cert.KernelIdeal.main) _).mono (fun r h => ⟨fun c => ⟨(h.1 c).1, (h.1 c).2.1⟩, h.2⟩) (run_main (F := Bits) m ρ)

/-- The same of its idealization. -/
theorem frame_ideal : Cert.quiescent_KernelIdeal := fun m ρ _ =>
  (θ_run Cert.KernelIdeal.defs _ _).mono (fun _ h => ⟨fun c => ⟨(h.1 c).1, (h.1 c).2.1⟩, h.2⟩) (run_main (F := Ideal) m ρ)

/-- The same of the reference. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Idealizing rewrote nothing. -/
theorem preserves : Cert.preserves_Kernel_KernelIdeal := trivial

/-- The devices' results are the blocks of the reference's. -/
theorem algebraic : Cert.algebraic_KernelIdeal_ReferenceIdeal := fun m ρ m' ρ' _ hag =>
  ⟨whole (m' (((0 : Dev Cert.ReferenceIdeal.nD).tc : Thread _ Cert.ReferenceIdeal.τ).loc Cert.ReferenceIdeal.main_arg0))
      (m' (((0 : Dev Cert.ReferenceIdeal.nD).tc : Thread _ Cert.ReferenceIdeal.τ).loc Cert.ReferenceIdeal.main_arg1)),
    (θ_run Cert.KernelIdeal.defs _ _).mono
      (fun _ h c => ⟨(h.1 c).2.2.trans (outAt_whole m _ _ (fun d => (hag d).1) (fun d => (hag d).2) c), (h.1 c).1, (h.1 c).2.1⟩)
      (run_main (F := Ideal) m ρ),
    (θ_run Cert.ReferenceIdeal.defs _ _).mono (fun _ h => h 0) (Cert.ReferenceIdeal.Value.run (F := Ideal) m' ρ')⟩

theorem claim : Cert.Claim :=
  ⟨Cert.Kernel.Gen.facts, Cert.KernelIdeal.Gen.facts, Cert.ReferenceIdeal.Gen.facts,
    frame_kernel, frame_ideal, frame_reference, preserves, algebraic⟩

end Cert.Proof

end
